-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_YKernel (m : (ℓ : Loc Cert.YKernel.nD Cert.YKernel.τ Cert.YKernel.sig) → Buf (Elt Bits) ℓ) : Prop :=
  True

def Pre_YKernelIdeal (m : (ℓ : Loc Cert.YKernelIdeal.nD Cert.YKernelIdeal.τ Cert.YKernelIdeal.sig) → Buf (Elt Ideal) ℓ) : Prop :=
  True

def Pre_YKernelIdeal_finite_x [hPre_finite_x : Cert.Pre_finite_x.Facts] (m : (ℓ : Loc Cert.YKernelIdeal.nD Cert.YKernelIdeal.τ Cert.YKernelIdeal.sig) → Buf (Elt Ideal) ℓ) : Prop :=
  ∀ c : Dev Cert.YKernelIdeal.nD,
    (Cert.Pre_finite_x.fn (F := Ideal) (m ((c.tc : Thread Cert.YKernelIdeal.nD Cert.YKernelIdeal.τ).loc Cert.YKernelIdeal.main_arg0)) (m ((c.tc : Thread Cert.YKernelIdeal.nD Cert.YKernelIdeal.τ).loc Cert.YKernelIdeal.main_arg1))) = (fun _ => 1#1)

def Pre_YReferenceIdeal (m : (ℓ : Loc Cert.YReferenceIdeal.nD Cert.YReferenceIdeal.τ Cert.YReferenceIdeal.sig) → Buf (Elt Ideal) ℓ) : Prop :=
  True

def Pre_YReferenceIdeal_finite_x [hPre_finite_x : Cert.Pre_finite_x.Facts] (m : (ℓ : Loc Cert.YReferenceIdeal.nD Cert.YReferenceIdeal.τ Cert.YReferenceIdeal.sig) → Buf (Elt Ideal) ℓ) : Prop :=
  ∀ c : Dev Cert.YReferenceIdeal.nD,
    (Cert.Pre_finite_x.fn (F := Ideal) (m ((c.tc : Thread Cert.YReferenceIdeal.nD Cert.YReferenceIdeal.τ).loc Cert.YReferenceIdeal.main_arg0)) (m ((c.tc : Thread Cert.YReferenceIdeal.nD Cert.YReferenceIdeal.τ).loc Cert.YReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_YKernel [hYKernel : Cert.YKernel.Facts] : Prop :=
  ∀ (m : (ℓ : Loc Cert.YKernel.nD Cert.YKernel.τ Cert.YKernel.sig) → Buf (Elt Bits) ℓ) (g : Dev Cert.YKernel.nD → PrngReg), Pre_YKernel m →
    θ_run (Cert.YKernel.defs (F := Bits)) (onTc (τ := Cert.YKernel.τ) (Cert.YKernel.main (F := Bits))) ⟨m, fun _ => 0, g⟩ (fun r => (∀ c : Dev Cert.YKernel.nD,
      r.2.mem ((c.tc : Thread Cert.YKernel.nD Cert.YKernel.τ).loc Cert.YKernel.main_arg0) = m ((c.tc : Thread Cert.YKernel.nD Cert.YKernel.τ).loc Cert.YKernel.main_arg0)
      ∧ r.2.mem ((c.tc : Thread Cert.YKernel.nD Cert.YKernel.τ).loc Cert.YKernel.main_arg1) = m ((c.tc : Thread Cert.YKernel.nD Cert.YKernel.τ).loc Cert.YKernel.main_arg1))
      ∧ r.2.sem = fun _ => 0)

def quiescent_YKernelIdeal [hYKernelIdeal : Cert.YKernelIdeal.Facts] : Prop :=
  ∀ (m : (ℓ : Loc Cert.YKernelIdeal.nD Cert.YKernelIdeal.τ Cert.YKernelIdeal.sig) → Buf (Elt Ideal) ℓ) (g : Dev Cert.YKernelIdeal.nD → PrngReg), Pre_YKernelIdeal m →
    θ_run (Cert.YKernelIdeal.defs (F := Ideal)) (onTc (τ := Cert.YKernelIdeal.τ) (Cert.YKernelIdeal.main (F := Ideal))) ⟨m, fun _ => 0, g⟩ (fun r => (∀ c : Dev Cert.YKernelIdeal.nD,
      r.2.mem ((c.tc : Thread Cert.YKernelIdeal.nD Cert.YKernelIdeal.τ).loc Cert.YKernelIdeal.main_arg0) = m ((c.tc : Thread Cert.YKernelIdeal.nD Cert.YKernelIdeal.τ).loc Cert.YKernelIdeal.main_arg0)
      ∧ r.2.mem ((c.tc : Thread Cert.YKernelIdeal.nD Cert.YKernelIdeal.τ).loc Cert.YKernelIdeal.main_arg1) = m ((c.tc : Thread Cert.YKernelIdeal.nD Cert.YKernelIdeal.τ).loc Cert.YKernelIdeal.main_arg1))
      ∧ r.2.sem = fun _ => 0)

def quiescent_YKernelIdeal_pre_finite_x [hYKernelIdeal : Cert.YKernelIdeal.Facts] [hPre_finite_x : Cert.Pre_finite_x.Facts] : Prop :=
  ∀ (m : (ℓ : Loc Cert.YKernelIdeal.nD Cert.YKernelIdeal.τ Cert.YKernelIdeal.sig) → Buf (Elt Ideal) ℓ) (g : Dev Cert.YKernelIdeal.nD → PrngReg), Pre_YKernelIdeal_finite_x m →
    θ_run (Cert.YKernelIdeal.defs (F := Ideal)) (onTc (τ := Cert.YKernelIdeal.τ) (Cert.YKernelIdeal.main (F := Ideal))) ⟨m, fun _ => 0, g⟩ (fun r => (∀ c : Dev Cert.YKernelIdeal.nD,
      r.2.mem ((c.tc : Thread Cert.YKernelIdeal.nD Cert.YKernelIdeal.τ).loc Cert.YKernelIdeal.main_arg0) = m ((c.tc : Thread Cert.YKernelIdeal.nD Cert.YKernelIdeal.τ).loc Cert.YKernelIdeal.main_arg0)
      ∧ r.2.mem ((c.tc : Thread Cert.YKernelIdeal.nD Cert.YKernelIdeal.τ).loc Cert.YKernelIdeal.main_arg1) = m ((c.tc : Thread Cert.YKernelIdeal.nD Cert.YKernelIdeal.τ).loc Cert.YKernelIdeal.main_arg1))
      ∧ r.2.sem = fun _ => 0)

def quiescent_YReferenceIdeal [hYReferenceIdeal : Cert.YReferenceIdeal.Facts] : Prop :=
  ∀ (m : (ℓ : Loc Cert.YReferenceIdeal.nD Cert.YReferenceIdeal.τ Cert.YReferenceIdeal.sig) → Buf (Elt Ideal) ℓ) (g : Dev Cert.YReferenceIdeal.nD → PrngReg), Pre_YReferenceIdeal m →
    θ_run (Cert.YReferenceIdeal.defs (F := Ideal)) (onTc (τ := Cert.YReferenceIdeal.τ) (Cert.YReferenceIdeal.main (F := Ideal))) ⟨m, fun _ => 0, g⟩ (fun r => (∀ c : Dev Cert.YReferenceIdeal.nD,
      r.2.mem ((c.tc : Thread Cert.YReferenceIdeal.nD Cert.YReferenceIdeal.τ).loc Cert.YReferenceIdeal.main_arg0) = m ((c.tc : Thread Cert.YReferenceIdeal.nD Cert.YReferenceIdeal.τ).loc Cert.YReferenceIdeal.main_arg0)
      ∧ r.2.mem ((c.tc : Thread Cert.YReferenceIdeal.nD Cert.YReferenceIdeal.τ).loc Cert.YReferenceIdeal.main_arg1) = m ((c.tc : Thread Cert.YReferenceIdeal.nD Cert.YReferenceIdeal.τ).loc Cert.YReferenceIdeal.main_arg1))
      ∧ r.2.sem = fun _ => 0)

def quiescent_YReferenceIdeal_pre_finite_x [hYReferenceIdeal : Cert.YReferenceIdeal.Facts] [hPre_finite_x : Cert.Pre_finite_x.Facts] : Prop :=
  ∀ (m : (ℓ : Loc Cert.YReferenceIdeal.nD Cert.YReferenceIdeal.τ Cert.YReferenceIdeal.sig) → Buf (Elt Ideal) ℓ) (g : Dev Cert.YReferenceIdeal.nD → PrngReg), Pre_YReferenceIdeal_finite_x m →
    θ_run (Cert.YReferenceIdeal.defs (F := Ideal)) (onTc (τ := Cert.YReferenceIdeal.τ) (Cert.YReferenceIdeal.main (F := Ideal))) ⟨m, fun _ => 0, g⟩ (fun r => (∀ c : Dev Cert.YReferenceIdeal.nD,
      r.2.mem ((c.tc : Thread Cert.YReferenceIdeal.nD Cert.YReferenceIdeal.τ).loc Cert.YReferenceIdeal.main_arg0) = m ((c.tc : Thread Cert.YReferenceIdeal.nD Cert.YReferenceIdeal.τ).loc Cert.YReferenceIdeal.main_arg0)
      ∧ r.2.mem ((c.tc : Thread Cert.YReferenceIdeal.nD Cert.YReferenceIdeal.τ).loc Cert.YReferenceIdeal.main_arg1) = m ((c.tc : Thread Cert.YReferenceIdeal.nD Cert.YReferenceIdeal.τ).loc Cert.YReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_YKernel_YKernelIdeal : Prop :=
  True

def algebraic_YKernelIdeal_YReferenceIdeal_pre_finite_x [hYKernelIdeal : Cert.YKernelIdeal.Facts] [hYReferenceIdeal : Cert.YReferenceIdeal.Facts] [hPre_finite_x : Cert.Pre_finite_x.Facts] : Prop :=
  ∀ (m : (ℓ : Loc Cert.YKernelIdeal.nD Cert.YKernelIdeal.τ Cert.YKernelIdeal.sig) → Buf (Elt Ideal) ℓ) (g : Dev Cert.YKernelIdeal.nD → PrngReg)
    (m' : (ℓ : Loc Cert.YReferenceIdeal.nD Cert.YReferenceIdeal.τ Cert.YReferenceIdeal.sig) → Buf (Elt Ideal) ℓ) (g' : Dev Cert.YReferenceIdeal.nD → PrngReg), Pre_YKernelIdeal_finite_x m →
    (∀ c : Dev Cert.YKernelIdeal.nD,
      m' ((c.tc : Thread Cert.YReferenceIdeal.nD Cert.YReferenceIdeal.τ).loc Cert.YReferenceIdeal.main_arg0) = m ((c.tc : Thread Cert.YKernelIdeal.nD Cert.YKernelIdeal.τ).loc Cert.YKernelIdeal.main_arg0)
      ∧ m' ((c.tc : Thread Cert.YReferenceIdeal.nD Cert.YReferenceIdeal.τ).loc Cert.YReferenceIdeal.main_arg1) = m ((c.tc : Thread Cert.YKernelIdeal.nD Cert.YKernelIdeal.τ).loc Cert.YKernelIdeal.main_arg1)) →
    ∃ (v0 : (c : Dev Cert.YKernelIdeal.nD) → Buf (Elt Ideal) ((c.tc : Thread Cert.YKernelIdeal.nD Cert.YKernelIdeal.τ).loc Cert.YKernelIdeal.main_v1_0)) (v1 : (c : Dev Cert.YKernelIdeal.nD) → Buf (Elt Ideal) ((c.tc : Thread Cert.YKernelIdeal.nD Cert.YKernelIdeal.τ).loc Cert.YKernelIdeal.main_v1_1)) (v2 : (c : Dev Cert.YKernelIdeal.nD) → Buf (Elt Ideal) ((c.tc : Thread Cert.YKernelIdeal.nD Cert.YKernelIdeal.τ).loc Cert.YKernelIdeal.main_v1_2)),
      θ_run (Cert.YKernelIdeal.defs (F := Ideal)) (onTc (τ := Cert.YKernelIdeal.τ) (Cert.YKernelIdeal.main (F := Ideal))) ⟨m, fun _ => 0, g⟩ (fun r => ∀ c : Dev Cert.YKernelIdeal.nD,
          r.2.mem ((c.tc : Thread Cert.YKernelIdeal.nD Cert.YKernelIdeal.τ).loc Cert.YKernelIdeal.main_v1_0) = v0 c
          ∧ r.2.mem ((c.tc : Thread Cert.YKernelIdeal.nD Cert.YKernelIdeal.τ).loc Cert.YKernelIdeal.main_v1_1) = v1 c
          ∧ r.2.mem ((c.tc : Thread Cert.YKernelIdeal.nD Cert.YKernelIdeal.τ).loc Cert.YKernelIdeal.main_v1_2) = v2 c
          ∧ r.2.mem ((c.tc : Thread Cert.YKernelIdeal.nD Cert.YKernelIdeal.τ).loc Cert.YKernelIdeal.main_arg0) = m ((c.tc : Thread Cert.YKernelIdeal.nD Cert.YKernelIdeal.τ).loc Cert.YKernelIdeal.main_arg0)
          ∧ r.2.mem ((c.tc : Thread Cert.YKernelIdeal.nD Cert.YKernelIdeal.τ).loc Cert.YKernelIdeal.main_arg1) = m ((c.tc : Thread Cert.YKernelIdeal.nD Cert.YKernelIdeal.τ).loc Cert.YKernelIdeal.main_arg1))
      ∧ θ_run (Cert.YReferenceIdeal.defs (F := Ideal)) (onTc (τ := Cert.YReferenceIdeal.τ) (Cert.YReferenceIdeal.main (F := Ideal))) ⟨m', fun _ => 0, g'⟩ (fun r => ∀ c : Dev Cert.YReferenceIdeal.nD,
          r.2.mem ((c.tc : Thread Cert.YReferenceIdeal.nD Cert.YReferenceIdeal.τ).loc Cert.YReferenceIdeal.main_v1_0) = v0 c
          ∧ r.2.mem ((c.tc : Thread Cert.YReferenceIdeal.nD Cert.YReferenceIdeal.τ).loc Cert.YReferenceIdeal.main_v1_1) = v1 c
          ∧ r.2.mem ((c.tc : Thread Cert.YReferenceIdeal.nD Cert.YReferenceIdeal.τ).loc Cert.YReferenceIdeal.main_v1_2) = v2 c
          ∧ r.2.mem ((c.tc : Thread Cert.YReferenceIdeal.nD Cert.YReferenceIdeal.τ).loc Cert.YReferenceIdeal.main_arg0) = m' ((c.tc : Thread Cert.YReferenceIdeal.nD Cert.YReferenceIdeal.τ).loc Cert.YReferenceIdeal.main_arg0)
          ∧ r.2.mem ((c.tc : Thread Cert.YReferenceIdeal.nD Cert.YReferenceIdeal.τ).loc Cert.YReferenceIdeal.main_arg1) = m' ((c.tc : Thread Cert.YReferenceIdeal.nD Cert.YReferenceIdeal.τ).loc Cert.YReferenceIdeal.main_arg1))

def Claim : Prop :=
  ∃ (hKernel : Cert.Kernel.Facts) (hKernelIdeal : Cert.KernelIdeal.Facts) (hReferenceIdeal : Cert.ReferenceIdeal.Facts) (hYKernel : Cert.YKernel.Facts) (hYKernelIdeal : Cert.YKernelIdeal.Facts) (hYReferenceIdeal : Cert.YReferenceIdeal.Facts) (hPre_finite : Cert.Pre_finite.Facts) (hPre_finite_x : Cert.Pre_finite_x.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_YKernel (hYKernel := hYKernel)
    ∧ quiescent_YKernelIdeal (hYKernelIdeal := hYKernelIdeal)
    ∧ quiescent_YKernelIdeal_pre_finite_x (hYKernelIdeal := hYKernelIdeal) (hPre_finite_x := hPre_finite_x)
    ∧ quiescent_YReferenceIdeal (hYReferenceIdeal := hYReferenceIdeal)
    ∧ quiescent_YReferenceIdeal_pre_finite_x (hYReferenceIdeal := hYReferenceIdeal) (hPre_finite_x := hPre_finite_x)
    ∧ preserves_Kernel_KernelIdeal
    ∧ algebraic_KernelIdeal_ReferenceIdeal_pre_finite (hKernelIdeal := hKernelIdeal) (hReferenceIdeal := hReferenceIdeal) (hPre_finite := hPre_finite)
    ∧ preserves_YKernel_YKernelIdeal
    ∧ algebraic_YKernelIdeal_YReferenceIdeal_pre_finite_x (hYKernelIdeal := hYKernelIdeal) (hYReferenceIdeal := hYReferenceIdeal) (hPre_finite_x := hPre_finite_x)
-- ==== Pre_finite.lean ====
abbrev S6x1536x4096 : Shape := ⟨3, ![6, 1536, 4096]⟩
abbrev S2880x4096 : Shape := ⟨2, ![2880, 4096]⟩
abbrev S_ : Shape := ⟨0, ![]⟩

class Facts : Prop where
  bcast_S_S6x1536x4096 : S_.BroadcastsInDim S6x1536x4096 (![] : Fin 0 → Fin S6x1536x4096.rank)
  reducesTo_S6x1536x4096_S_d0_1_2 : S6x1536x4096.ReducesTo [0, 1, 2] S_
  h_S_ : 0 < S_.numel

variable [Facts]

def fn {F : FTy → Type} [FloatOps F] (main_arg0 : FVec F S6x1536x4096 .bf16) (main_arg1 : FVec F S2880x4096 .bf16) : IVec S_ 1 :=
  let main_v0 : FVec F S6x1536x4096 .bf16 := Host.absf main_arg0
  let main_cst : FVec F S_ .bf16 := constant S_ .bf16 0x7F7F#16
  let main_v1 : FVec F S6x1536x4096 .bf16 := broadcastInDim S6x1536x4096 ![] bcast_S_S6x1536x4096 main_cst
  let main_v2 : IVec S6x1536x4096 1 := cmpf .ole main_v0 main_v1
  let main_c : IVec S_ 1 := constantI S_ 1 1#1
  let main_v3 : IVec S_ 1 := (fun x v => Host.reduce IntOp.andi x v reducesTo_S6x1536x4096_S_d0_1_2 h_S_) main_v2 main_c
  main_v3
-- ==== Pre_finite_x.lean ====
abbrev S6x1536x2880 : Shape := ⟨3, ![6, 1536, 2880]⟩
abbrev S2880x4096 : Shape := ⟨2, ![2880, 4096]⟩
abbrev S_ : Shape := ⟨0, ![]⟩

class Facts : Prop where
  bcast_S_S6x1536x2880 : S_.BroadcastsInDim S6x1536x2880 (![] : Fin 0 → Fin S6x1536x2880.rank)
  reducesTo_S6x1536x2880_S_d0_1_2 : S6x1536x2880.ReducesTo [0, 1, 2] S_
  h_S_ : 0 < S_.numel

variable [Facts]

def fn {F : FTy → Type} [FloatOps F] (main_arg0 : FVec F S6x1536x2880 .bf16) (main_arg1 : FVec F S2880x4096 .bf16) : IVec S_ 1 :=
  let main_v0 : FVec F S6x1536x2880 .bf16 := Host.absf main_arg0
  let main_cst : FVec F S_ .bf16 := constant S_ .bf16 0x7F7F#16
  let main_v1 : FVec F S6x1536x2880 .bf16 := broadcastInDim S6x1536x2880 ![] bcast_S_S6x1536x2880 main_cst
  let main_v2 : IVec S6x1536x2880 1 := cmpf .ole main_v0 main_v1
  let main_c : IVec S_ 1 := constantI S_ 1 1#1
  let main_v3 : IVec S_ 1 := (fun x v => Host.reduce IntOp.andi x v reducesTo_S6x1536x2880_S_d0_1_2 h_S_) main_v2 main_c
  main_v3
-- ==== Kernel.lean ====
abbrev S6x1536x4096 : Shape := ⟨3, ![6, 1536, 4096]⟩
abbrev S2880x4096 : Shape := ⟨2, ![2880, 4096]⟩
abbrev S6x2880x1536 : Shape := ⟨3, ![6, 2880, 1536]⟩
abbrev S6x1536x128 : Shape := ⟨3, ![6, 1536, 128]⟩
abbrev S1x256x4096 : Shape := ⟨3, ![1, 256, 4096]⟩
abbrev S1x2880x256 : Shape := ⟨3, ![1, 2880, 256]⟩
abbrev S1x256x128 : Shape := ⟨3, ![1, 256, 128]⟩
abbrev S256x4096 : Shape := ⟨2, ![256, 4096]⟩
abbrev S1x128x512 : Shape := ⟨3, ![1, 128, 512]⟩
abbrev S128x512 : Shape := ⟨2, ![128, 512]⟩
abbrev S512x128 : Shape := ⟨2, ![512, 128]⟩
abbrev S16x32x128 : Shape := ⟨3, ![16, 32, 128]⟩
abbrev S16x128 : Shape := ⟨2, ![16, 128]⟩
abbrev S16x1x128 : Shape := ⟨3, ![16, 1, 128]⟩
abbrev S128x128 : Shape := ⟨2, ![128, 128]⟩
abbrev S1x128x128 : Shape := ⟨3, ![1, 128, 128]⟩
abbrev S480x4096 : Shape := ⟨2, ![480, 4096]⟩
abbrev S480x256 : Shape := ⟨2, ![480, 256]⟩
abbrev S1x480x256 : Shape := ⟨3, ![1, 480, 256]⟩

abbrev nBuf : Space → Nat
  | .hbm => 5
  | .vmem => 11
  | .smem => 0
  | _ => 0

abbrev bufTy : (tb : Table) → Fin (tcTables nBuf tb) → BufTy
  | .hbm, ⟨0, _⟩ => ⟨S6x1536x4096, .bf16⟩
  | .hbm, ⟨1, _⟩ => ⟨S2880x4096, .bf16⟩
  | .hbm, ⟨2, _⟩ => ⟨S6x2880x1536, .bf16⟩
  | .hbm, ⟨3, _⟩ => ⟨S6x1536x4096, .fp8e4m3⟩
  | .hbm, ⟨4, _⟩ => ⟨S6x1536x128, .i8⟩
  | .local _ .vmem, ⟨0, _⟩ => ⟨S1x256x4096, .bf16⟩
  | .local _ .vmem, ⟨1, _⟩ => ⟨S1x256x4096, .bf16⟩
  | .local _ .vmem, ⟨2, _⟩ => ⟨S2880x4096, .bf16⟩
  | .local _ .vmem, ⟨3, _⟩ => ⟨S1x2880x256, .bf16⟩
  | .local _ .vmem, ⟨4, _⟩ => ⟨S1x2880x256, .bf16⟩
  | .local _ .vmem, ⟨5, _⟩ => ⟨S1x256x4096, .fp8e4m3⟩
  | .local _ .vmem, ⟨6, _⟩ => ⟨S1x256x4096, .fp8e4m3⟩
  | .local _ .vmem, ⟨7, _⟩ => ⟨S1x256x128, .i8⟩
  | .local _ .vmem, ⟨8, _⟩ => ⟨S1x256x128, .i8⟩
  | .local _ .vmem, ⟨9, _⟩ => ⟨S256x4096, .bf16⟩
  | .local _ .vmem, ⟨10, _⟩ => ⟨S256x4096, .bf16⟩
  | _, _ => ⟨S6x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c35_i32 : BitVec 32 := 35#32
  let v0 : BitVec 32 := Scalar.minsi arg0 c35_i32
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.divsi v1 c6_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c6_i32 c0_i32_2
  let v9 : BitVec 32 := Scalar.extui v8
  let c0_i32_3 : BitVec 32 := 0#32
  let v10 : BitVec 1 := Scalar.cmpi .slt c6_i32 c0_i32_3
  let v11 : BitVec 32 := Scalar.extui v10
  let v12 : BitVec 32 := Scalar.subi v9 v11
  let v13 : BitVec 1 := Scalar.cmpi .ne v7 v12
  let v14 : BitVec 32 := Scalar.remsi v1 c6_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c6_i32_8 : BitVec 32 := 6#32
  let c0_i32_9 : BitVec 32 := 0#32
  let v21 : BitVec 1 := Scalar.cmpi .eq c6_i32_8 c0_i32_9
  let c1_i32_10 : BitVec 32 := 1#32
  let v22 : BitVec 32 := Scalar.select v21 c1_i32_10 c6_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_3 (i : grid0.Coords) : Fin 3 → Nat :=
  let arg0 : BitVec 32 := BitVec.ofNat 32 (i 0).val
  let c35_i32 : BitVec 32 := 35#32
  let v0 : BitVec 32 := Scalar.minsi arg0 c35_i32
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_4 (i : grid0.Coords) : Fin 3 → Nat :=
  let arg0 : BitVec 32 := BitVec.ofNat 32 (i 0).val
  let c35_i32 : BitVec 32 := 35#32
  let v0 : BitVec 32 := Scalar.minsi arg0 c35_i32
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2880x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2880x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S6x1536x4096 : Shape := ⟨3, ![6, 1536, 4096]⟩
abbrev S2880x4096 : Shape := ⟨2, ![2880, 4096]⟩
abbrev S6x2880x1536 : Shape := ⟨3, ![6, 2880, 1536]⟩
abbrev S6x1536x128 : Shape := ⟨3, ![6, 1536, 128]⟩
abbrev S6x1536x128x32 : Shape := ⟨4, ![6, 1536, 128, 32]⟩
abbrev S6x1536x128x1 : Shape := ⟨4, ![6, 1536, 128, 1]⟩
abbrev S1x2880x4096 : Shape := ⟨3, ![1, 2880, 4096]⟩
abbrev S6x2880x4096 : Shape := ⟨3, ![6, 2880, 4096]⟩

abbrev nBuf : Space → Nat
  | .hbm => 5
  | .vmem => 5
  | .smem => 0
  | _ => 0

abbrev bufTy : (tb : Table) → Fin (tcTables nBuf tb) → BufTy
  | .hbm, ⟨0, _⟩ => ⟨S6x1536x4096, .bf16⟩
  | .hbm, ⟨1, _⟩ => ⟨S2880x4096, .bf16⟩
  | .hbm, ⟨2, _⟩ => ⟨S6x2880x1536, .bf16⟩
  | .hbm, ⟨3, _⟩ => ⟨S6x1536x4096, .fp8e4m3⟩
  | .hbm, ⟨4, _⟩ => ⟨S6x1536x128, .i8⟩
  | .local _ .vmem, ⟨0, _⟩ => ⟨S6x1536x4096, .bf16⟩
  | .local _ .vmem, ⟨1, _⟩ => ⟨S2880x4096, .bf16⟩
  | .local _ .vmem, ⟨2, _⟩ => ⟨S6x2880x1536, .bf16⟩
  | .local _ .vmem, ⟨3, _⟩ => ⟨S6x1536x4096, .fp8e4m3⟩
  | .local _ .vmem, ⟨4, _⟩ => ⟨S6x1536x128, .i8⟩
  | _, _ => ⟨S6x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2880x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1536x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1536x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== YKernel.lean ====
abbrev S6x1536x2880 : Shape := ⟨3, ![6, 1536, 2880]⟩
abbrev S2880x4096 : Shape := ⟨2, ![2880, 4096]⟩
abbrev S6x2880x1536 : Shape := ⟨3, ![6, 2880, 1536]⟩
abbrev S6x1536x4096 : Shape := ⟨3, ![6, 1536, 4096]⟩
abbrev S6x90x1536 : Shape := ⟨3, ![6, 90, 1536]⟩
abbrev S1x2880x256 : Shape := ⟨3, ![1, 2880, 256]⟩
abbrev S1x256x4096 : Shape := ⟨3, ![1, 256, 4096]⟩
abbrev S1x90x256 : Shape := ⟨3, ![1, 90, 256]⟩
abbrev S256x2880 : Shape := ⟨2, ![256, 2880]⟩
abbrev S1x128x256 : Shape := ⟨3, ![1, 128, 256]⟩
abbrev S128x256 : Shape := ⟨2, ![128, 256]⟩
abbrev S4x32x256 : Shape := ⟨3, ![4, 32, 256]⟩
abbrev S4x256 : Shape := ⟨2, ![4, 256]⟩
abbrev S4x1x256 : Shape := ⟨3, ![4, 1, 256]⟩
abbrev S256x128 : Shape := ⟨2, ![256, 128]⟩
abbrev S1x64x256 : Shape := ⟨3, ![1, 64, 256]⟩
abbrev S64x256 : Shape := ⟨2, ![64, 256]⟩
abbrev S2x32x256 : Shape := ⟨3, ![2, 32, 256]⟩
abbrev S2x256 : Shape := ⟨2, ![2, 256]⟩
abbrev S2x1x256 : Shape := ⟨3, ![2, 1, 256]⟩
abbrev S90x256 : Shape := ⟨2, ![90, 256]⟩
abbrev S256x64 : Shape := ⟨2, ![256, 64]⟩
abbrev S2880x512 : Shape := ⟨2, ![2880, 512]⟩
abbrev S256x512 : Shape := ⟨2, ![256, 512]⟩
abbrev S1x256x512 : Shape := ⟨3, ![1, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S6x1536x2880, .bf16⟩
  | .hbm, ⟨1, _⟩ => ⟨S2880x4096, .bf16⟩
  | .hbm, ⟨2, _⟩ => ⟨S6x2880x1536, .bf16⟩
  | .hbm, ⟨3, _⟩ => ⟨S6x1536x4096, .bf16⟩
  | .hbm, ⟨4, _⟩ => ⟨S6x2880x1536, .fp8e4m3⟩
  | .hbm, ⟨5, _⟩ => ⟨S6x90x1536, .i8⟩
  | .local _ .vmem, ⟨0, _⟩ => ⟨S1x2880x256, .bf16⟩
  | .local _ .vmem, ⟨1, _⟩ => ⟨S1x2880x256, .bf16⟩
  | .local _ .vmem, ⟨2, _⟩ => ⟨S2880x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x2880x256, .fp8e4m3⟩
  | .local _ .vmem, ⟨6, _⟩ => ⟨S1x2880x256, .fp8e4m3⟩
  | .local _ .vmem, ⟨7, _⟩ => ⟨S1x90x256, .i8⟩
  | .local _ .vmem, ⟨8, _⟩ => ⟨S1x90x256, .i8⟩
  | .local _ .vmem, ⟨9, _⟩ => ⟨S256x2880, .bf16⟩
  | .local _ .vmem, ⟨10, _⟩ => ⟨S256x2880, .bf16⟩
  | _, _ => ⟨S6x1536x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c35_i32 : BitVec 32 := 35#32
  let v0 : BitVec 32 := Scalar.minsi arg0 c35_i32
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.divsi v1 c6_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c6_i32 c0_i32_2
  let v9 : BitVec 32 := Scalar.extui v8
  let c0_i32_3 : BitVec 32 := 0#32
  let v10 : BitVec 1 := Scalar.cmpi .slt c6_i32 c0_i32_3
  let v11 : BitVec 32 := Scalar.extui v10
  let v12 : BitVec 32 := Scalar.subi v9 v11
  let v13 : BitVec 1 := Scalar.cmpi .ne v7 v12
  let v14 : BitVec 32 := Scalar.remsi v1 c6_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c6_i32_8 : BitVec 32 := 6#32
  let c0_i32_9 : BitVec 32 := 0#32
  let v21 : BitVec 1 := Scalar.cmpi .eq c6_i32_8 c0_i32_9
  let c1_i32_10 : BitVec 32 := 1#32
  let v22 : BitVec 32 := Scalar.select v21 c1_i32_10 c6_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_3 (i : grid0.Coords) : Fin 3 → Nat :=
  let arg0 : BitVec 32 := BitVec.ofNat 32 (i 0).val
  let c35_i32 : BitVec 32 := 35#32
  let v0 : BitVec 32 := Scalar.minsi arg0 c35_i32
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_4 (i : grid0.Coords) : Fin 3 → Nat :=
  let arg0 : BitVec 32 := BitVec.ofNat 32 (i 0).val
  let c35_i32 : BitVec 32 := 35#32
  let v0 : BitVec 32 := Scalar.minsi arg0 c35_i32
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage0_0 : Fin 2 → Memref sig .tc .vmem S1x2880x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2880x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2880x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x90x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== YReferenceIdeal.lean ====
abbrev S6x1536x2880 : Shape := ⟨3, ![6, 1536, 2880]⟩
abbrev S2880x4096 : Shape := ⟨2, ![2880, 4096]⟩
abbrev S6x2880x1536 : Shape := ⟨3, ![6, 2880, 1536]⟩
abbrev S6x1536x4096 : Shape := ⟨3, ![6, 1536, 4096]⟩
abbrev S6x90x1536 : Shape := ⟨3, ![6, 90, 1536]⟩
abbrev S6x90x32x1536 : Shape := ⟨4, ![6, 90, 32, 1536]⟩
abbrev S6x90x1x1536 : Shape := ⟨4, ![6, 90, 1, 1536]⟩
abbrev S1x2880x4096 : Shape := ⟨3, ![1, 2880, 4096]⟩
abbrev S6x2880x4096 : Shape := ⟨3, ![6, 2880, 4096]⟩

abbrev nBuf : Space → Nat
  | .hbm => 6
  | .vmem => 5
  | .smem => 0
  | _ => 0

abbrev bufTy : (tb : Table) → Fin (tcTables nBuf tb) → BufTy
  | .hbm, ⟨0, _⟩ => ⟨S6x1536x2880, .bf16⟩
  | .hbm, ⟨1, _⟩ => ⟨S2880x4096, .bf16⟩
  | .hbm, ⟨2, _⟩ => ⟨S6x2880x1536, .bf16⟩
  | .hbm, ⟨3, _⟩ => ⟨S6x1536x4096, .bf16⟩
  | .hbm, ⟨4, _⟩ => ⟨S6x2880x1536, .fp8e4m3⟩
  | .hbm, ⟨5, _⟩ => ⟨S6x90x1536, .i8⟩
  | .local _ .vmem, ⟨0, _⟩ => ⟨S6x2880x1536, .bf16⟩
  | .local _ .vmem, ⟨1, _⟩ => ⟨S2880x4096, .bf16⟩
  | .local _ .vmem, ⟨2, _⟩ => ⟨S6x1536x4096, .bf16⟩
  | .local _ .vmem, ⟨3, _⟩ => ⟨S6x2880x1536, .fp8e4m3⟩
  | .local _ .vmem, ⟨4, _⟩ => ⟨S6x90x1536, .i8⟩
  | _, _ => ⟨S6x1536x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x2880x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2880x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x90x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRuns.lean ====
/- What the runs of the kernel program's body are stated over, at any float instance. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The first argument as on entry. -/
theorem V_main_arg0 (c : Dev nD) : V m c main_arg0 = m ((c : Thread nD τ).loc main_arg0) := rfl
/-- The second argument as on entry. -/
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28, 30, 32, 34 and 36 only — decided over the grid. -/
theorem hcond0_2 : ∀ t : Fin cfg0.N, cond0_2 (grid0.coords t) ↔ (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36) :=
  (by decide +kernel : ∀ t : Fin grid0.N, cond0_2 (grid0.coords t) ↔ (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x4096 .bf16 := win0_0.stage (cfg0.slots t 0)
/-- The staged window of the first input is whole. -/
abbrev hs0_0 (t : Fin cfg0.N) : (ms0_0 t).IsWhole := hstage0_0 ((cfg0.slots t 0).cast nbuf0_0)
/-- The staged window of the weights. -/
abbrev ms0_1 (t : Fin cfg0.N) : Memref sig .tc .vmem S2880x4096 .bf16 := win0_1.stage (cfg0.slots t 1)
/-- The staged window of the weights is whole. -/
abbrev hs0_1 (t : Fin cfg0.N) : (ms0_1 t).IsWhole := hstage0_1 ((cfg0.slots t 1).cast nbuf0_1)
/-- The staged window of the product. -/
abbrev ms0_2 (t : Fin cfg0.N) : Memref sig .tc .vmem S1x2880x256 .bf16 := win0_2.stage (cfg0.slots t 2)
/-- The staged window of the product is whole. -/
abbrev hs0_2 (t : Fin cfg0.N) : (ms0_2 t).IsWhole := hstage0_2 ((cfg0.slots t 2).cast nbuf0_2)
/-- The staged window of the codes. -/
abbrev ms0_3 (t : Fin cfg0.N) : Memref sig .tc .vmem S1x256x4096 .fp8e4m3 := win0_3.stage (cfg0.slots t 3)
/-- The staged window of the codes is whole. -/
abbrev hs0_3 (t : Fin cfg0.N) : (ms0_3 t).IsWhole := hstage0_3 ((cfg0.slots t 3).cast nbuf0_3)
/-- The staged window of the exponents. -/
abbrev ms0_4 (t : Fin cfg0.N) : Memref sig .tc .vmem S1x256x128 .i8 := win0_4.stage (cfg0.slots t 4)
/-- The staged window of the exponents is whole. -/
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x4096 .bf16 := Memref.whole cc0_scratch0
/-- The second slot. -/
abbrev scM0_1 : Memref sig .tc .vmem S256x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRunA.lean ====
/- The body at the first point. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1024000 in
/-- The body's triple IN CASE A (`scf.if` 0 taken, `scf.if` 1 not taken, `scf.if` 2 not taken: points 0): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : cond0_0 i) (hc1 : ¬cond0_1 i) (hc2 : ¬cond0_2 i)
    (x0 : Vec F S1x256x4096 .bf16) (x1 : Vec F S2880x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_dx_call i arg1 harg1 arg2 harg2 arg3 harg3 arg4 harg4 arg5 harg5 arg6 harg6 arg7 harg7) K := by
    intro E K
    simp only [cc0_dx_call_eq_skeleton]; unfold cc0_dx_call_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Gen

end
-- ==== Proof.KernelRunB.lean ====
/- The body at an odd point. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1160000 in
/-- The body's triple IN CASE B (`scf.if` 0 not taken, `scf.if` 1 taken, `scf.if` 2 not taken: points 1, 3, … 35: 18 of 37): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : ¬cond0_0 i) (hc1 : cond0_1 i) (hc2 : ¬cond0_2 i)
    (x0 : Vec F S1x256x4096 .bf16) (x1 : Vec F S2880x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_dx_call i arg1 harg1 arg2 harg2 arg3 harg3 arg4 harg4 arg5 harg5 arg6 harg6 arg7 harg7) K := by
    intro E K
    simp only [cc0_dx_call_eq_skeleton]; unfold cc0_dx_call_skel
    simp only [k0_part82_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Gen

end
-- ==== Proof.KernelRunC.lean ====
/- The dx kernel's body run once in its third case, at any float values: the outputs' contents are not named. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1160000 in
/-- The body's triple IN CASE C (`scf.if` 0 not taken, `scf.if` 1 not taken, `scf.if` 2 taken: points 2, 4, … 36: 18 of 37): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : ¬cond0_0 i) (hc1 : ¬cond0_1 i) (hc2 : cond0_2 i)
    (x0 : Vec F S1x256x4096 .bf16) (x1 : Vec F S2880x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_dx_call i arg1 harg1 arg2 harg2 arg3 harg3 arg4 harg4 arg5 harg5 arg6 harg6 arg7 harg7) K := by
    intro E K
    simp only [cc0_dx_call_eq_skeleton]; unfold cc0_dx_call_skel
    rw [k0_part124_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/- The frame of the kernel's program at any float values: the arguments end unchanged and the counters at zero. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The second input's window is left as it was loaded. -/
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second input's window holds its block before a step. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 1200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 37 := lt_of_lt_of_eq t.isLt (show cfg0.N = 37 from N_0)
  by_cases h0 : t.val % 37 = 0
  · by_cases h1 : t.val % 2 = 1
    · exfalso; omega
    · by_cases h2 : (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk m c 0 t) (iblk m c 1 t)) Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
  · by_cases h1 : t.val % 2 = 1
    · by_cases h2 : (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t)) Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
    · by_cases h2 : (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) (fun h => h1 ((hcond0_1 t).mp h)) ((hcond0_2 t).mpr h2) (iblk m c 0 t) (iblk m c 1 t)) Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.RefValue.lean ====
/- The reference's result arrays after its run, as functions of its arguments. -/
module

public import proofs.«01_k».proof.Proof.Gen.ReferenceIdeal.Frame
public import Idealize.ShloMosaic.Lib.Pipeline.Value

@[expose] public section

noncomputable section

namespace Cert.ReferenceIdeal.Results

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S6x2880x1536.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S6x1536x4096.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S6x1536x128.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

/-! ## Closed form at one grid point: every window's block is its array -/

/-- The offset is zero on every axis. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x1536x4096.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 1536 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offset is zero on every axis. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2880x4096.Idx) : ((cfg0.win 1).blk t).view.emb j = j := by
  obtain ⟨e0, e1⟩ := idx_zero1 t
  funext a; apply Fin.ext
  match a with
  | ⟨0, _⟩ => show win0_1.index t (0 : Fin 2) * 2880 + 1 * (j 0).val = (j 0).val; omega
  | ⟨1, _⟩ => show win0_1.index t (1 : Fin 2) * 4096 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The offset is zero on every axis. -/
theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S6x2880x1536.Idx) : ((cfg0.win 2).blk t).view.emb j = j := by
  obtain ⟨e0, e1, e2⟩ := idx_zero2 t
  funext a; apply Fin.ext
  match a with
  | ⟨0, _⟩ => show win0_2.index t (0 : Fin 3) * 6 + 1 * (j 0).val = (j 0).val; omega
  | ⟨1, _⟩ => show win0_2.index t (1 : Fin 3) * 2880 + 1 * (j 1).val = (j 1).val; omega
  | ⟨2, _⟩ => show win0_2.index t (2 : Fin 3) * 1536 + 1 * (j 2).val = (j 2).val; omega

/-- The offset is zero on every axis. -/
theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S6x1536x4096.Idx) : ((cfg0.win 3).blk t).view.emb j = j := by
  obtain ⟨e0, e1, e2⟩ := idx_zero3 t
  funext a; apply Fin.ext
  match a with
  | ⟨0, _⟩ => show win0_3.index t (0 : Fin 3) * 6 + 1 * (j 0).val = (j 0).val; omega
  | ⟨1, _⟩ => show win0_3.index t (1 : Fin 3) * 1536 + 1 * (j 1).val = (j 1).val; omega
  | ⟨2, _⟩ => show win0_3.index t (2 : Fin 3) * 4096 + 1 * (j 2).val = (j 2).val; omega

/-- The offset is zero on every axis. -/
theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S6x1536x128.Idx) : ((cfg0.win 4).blk t).view.emb j = j := by
  obtain ⟨e0, e1, e2⟩ := idx_zero4 t
  funext a; apply Fin.ext
  match a with
  | ⟨0, _⟩ => show win0_4.index t (0 : Fin 3) * 6 + 1 * (j 0).val = (j 0).val; omega
  | ⟨1, _⟩ => show win0_4.index t (1 : Fin 3) * 1536 + 1 * (j 1).val = (j 1).val; omega
  | ⟨2, _⟩ => show win0_4.index t (2 : Fin 3) * 128 + 1 * (j 2).val = (j 2).val; omega

/-! ### Output window 2: the array after the run -/

/-- What the window's array ends holding: `out0_2` applied to the argument arrays in place of the input blocks (a value that the
    frame states apart, `kK_payN a…`, keeps its loads inside its own definition). -/
abbrev G2 (a0 : Vec F S6x1536x4096 .bf16) (a1 : Vec F S2880x4096 .bf16) : Vec F S6x2880x1536 .bf16 :=
  k0_pay6 a0 a1

/-- A load of the whole of a block reads the block, and the one store through the whole rectangle leaves its payload. -/
theorem out2_eq (a0 : Vec F S6x1536x4096 .bf16) (a1 : Vec F S2880x4096 .bf16) : out0_2 (F := F) a0 a1 = G2 a0 a1 := by
  unfold out0_2
  rw [View.canon_unit_zero hz2, View.ld_unit_zero (S := S6x1536x4096) hz0 _ a0, View.ld_unit_zero (S := S2880x4096) hz1 _ a1]

/-- Cutting the point's block out of `X` and reading `X` through the block's view give the same. -/
theorem cut2_eq (t : Fin cfg0.N) (X : Vec F S6x2880x1536 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S6x2880x1536.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S6x1536x4096 .bf16) (a1 : Vec F S2880x4096 .bf16) : Vec F S6x1536x4096 .fp8e4m3 :=
  k0_pay1 (k0_pay5 a0)

/-- A load of the whole of a block reads the block, and the one store through the whole rectangle leaves its payload. -/
theorem out3_eq (a0 : Vec F S6x1536x4096 .bf16) (a1 : Vec F S2880x4096 .bf16) : out0_3 (F := F) a0 a1 = G3 a0 a1 := by
  unfold out0_3
  rw [View.canon_unit_zero hz3, View.ld_unit_zero (S := S6x1536x4096) hz0 _ a0]

/-- Cutting the point's block out of `X` and reading `X` through the block's view give the same. -/
theorem cut3_eq (t : Fin cfg0.N) (X : Vec F S6x1536x4096 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S6x1536x4096.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S6x1536x4096 .bf16) (a1 : Vec F S2880x4096 .bf16) : Vec F S6x1536x128 .i8 :=
  k0_pay2 (k0_pay4 a0)

/-- A load of the whole of a block reads the block, and the one store through the whole rectangle leaves its payload. -/
theorem out4_eq (a0 : Vec F S6x1536x4096 .bf16) (a1 : Vec F S2880x4096 .bf16) : out0_4 (F := F) a0 a1 = G4 a0 a1 := by
  unfold out0_4
  rw [View.canon_unit_zero hz4, View.ld_unit_zero (S := S6x1536x4096) hz0 _ a0]

/-- Cutting the point's block out of `X` and reading `X` through the block's view give the same. -/
theorem cut4_eq (t : Fin cfg0.N) (X : Vec F S6x1536x128 .i8) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S6x1536x128.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.ReferenceIdeal.Results

end
-- ==== Proof.DxQ.lean ====
/- One piece of the dx kernel's quantiser, 128 rows by 512 columns, as one definition per value: the kernel's text states it once per
   piece and branch. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic

variable {F : FTy → Type} [FloatOps F]

/-- One step of the search for the exponent field: take the bit when the power it gives is at most `p`. -/
def stepV {S : Shape} (b : BitVec 32) (p : FVec F S .f32) (e : IVec S 32) : IVec S 32 :=
  select (cmpf .oge p (bitcastToFloat .f32 (shli (addi e (broadcast S b)) (broadcast S 23#32)))) (addi e (broadcast S b)) e

/-- The exponent field of `p`, bit by bit. -/
def fieldV {S : Shape} (p : FVec F S .f32) : IVec S 32 :=
  stepV 1#32 p (stepV 2#32 p (stepV 4#32 p (stepV 8#32 p (stepV 16#32 p (stepV 32#32 p (stepV 64#32 p (stepV 128#32 p (broadcast S 0#32))))))))

/-- The block's biased exponent. -/
def byteV {S : Shape} (p : FVec F S .f32) : IVec S 32 :=
  select (ori (cmpi .eq (fieldV p) (broadcast S 0#32)) (cmpi .eq (fieldV p) (broadcast S 255#32))) (broadcast S 127#32)
    (addi (fieldV p) (broadcast S 1#32))

/-- The factor a block is divided by, as the power it is multiplied with. -/
def invV {S : Shape} (p : FVec F S .f32) : FVec F S .bf16 :=
  truncf .bf16 (bitcastToFloat .f32 (shli (subi (broadcast S 254#32) (byteV p)) (broadcast S 23#32))) bitsLt_bf16_f32

/-- The block's scale. -/
def scaleV {S : Shape} (p : FVec F S .f32) : FVec F S .bf16 :=
  truncf .bf16 (bitcastToFloat .f32 (shli (byteV p) (broadcast S 23#32))) bitsLt_bf16_f32

/-- A block's greatest magnitude over 448. -/
def ampV (v : FVec F S128x512 .bf16) : FVec F S16x128 .f32 :=
  mulf (extf .f32 (multiReduction .maximumf [1] S16x128 (absf (shapeCast S16x32x128 (transpose S512x128 [1, 0] v transposes_S128x512_p1_0_S512x128)
    shapeCasts_S512x128_S16x32x128)) 0xFF80#16 reduces_S16x32x128_S16x128 (.inr rfl) rfl) bitsLt_bf16_f32)
    (broadcast S16x128 (Scalar.ofBits .f32 0x3B124925#32 : F .f32))

/-- A value per block, at every element of the block. -/
def spreadV (s : FVec F S16x128 .bf16) : FVec F S128x512 .bf16 :=
  transpose S128x512 [1, 0] (shapeCast S512x128 (broadcastTo S16x32x128 (shapeCast S16x1x128 (shapeCast S16x1x128 s shapeCasts_S16x128_S16x1x128)
    shapeCasts_S16x1x128_S16x1x128) broadcasts_S16x1x128_S16x32x128) shapeCasts_S16x32x128_S512x128) transposes_S512x128_p1_0_S128x512

/-- The piece's codes. -/
def codesV (v : FVec F S128x512 .bf16) : FVec F S128x512 .fp8e4m3 :=
  truncf .fp8e4m3 (minimumf (broadcast S128x512 (Scalar.truncf .bf16 bitsLt_bf16_f32 (Scalar.ofBits .f32 0x43E00000#32 : F .f32)))
    (maximumf (broadcast S128x512 (Scalar.truncf .bf16 bitsLt_bf16_f32 (Scalar.ofBits .f32 0xC3E00000#32 : F .f32)))
      (mulf v (spreadV (invV (ampV v)))))) bitsLt_fp8e4m3_bf16

/-- A piece without its leading axis. -/
def cast1 (v : Vec F S1x128x512 .bf16) : FVec F S128x512 .bf16 := shapeCast S128x512 v shapeCasts_S1x128x512_S128x512

/-- The piece's codes as stored. -/
def pieceCodes (v : Vec F S1x128x512 .bf16) : FVec F S1x128x512 .fp8e4m3 :=
  shapeCast S1x128x512 (codesV (cast1 v)) shapeCasts_S128x512_S1x128x512

/-- The piece's values back at full width, as stored. -/
def pieceWide (v : Vec F S1x128x512 .bf16) : FVec F S128x512 .bf16 :=
  shapeCast S128x512 (mulf (extf .bf16 (codesV (cast1 v)) bitsLt_fp8e4m3_bf16) (spreadV (scaleV (ampV (cast1 v)))) : FVec F S128x512 .bf16)
    shapeCasts_S128x512_S128x512

/-- The piece's exponents. -/
def pieceBytes (v : Vec F S1x128x512 .bf16) : IVec S16x128 32 := byteV (ampV (cast1 v))

/-- 128 rows' exponents as stored: eight pieces'. -/
def rowsBytes (b0 b1 b2 b3 b4 b5 b6 b7 : IVec S16x128 32) : IVec S1x128x128 8 :=
  shapeCast S1x128x128 (trunci 8 (fptosi 32 (transpose S128x128 [1, 0] (sitofp .f32 (concatenate S128x128 0
    [⟨S16x128, b0⟩, ⟨S16x128, b1⟩, ⟨S16x128, b2⟩, ⟨S16x128, b3⟩, ⟨S16x128, b4⟩, ⟨S16x128, b5⟩, ⟨S16x128, b6⟩, ⟨S16x128, b7⟩]
    concatenates_S16x128_S16x128_S16x128_S16x128_S16x128_S16x128_S16x128_S16x128_S128x128_d0) : FVec F S128x128 .f32) transposes_S128x128_p1_0_S128x128)) natLt_8_32)
    shapeCasts_S128x128_S1x128x128

/-- Rows of a product as stored. -/
def dotRows (a : Vec F S480x4096 .bf16) (b : Vec F S256x4096 .bf16) : FVec F S1x480x256 .bf16 :=
  shapeCast S1x480x256 (truncf .bf16 (matmul dot_S480x4096_S256x4096_S480x256_1_1_0_0_n_n none a b (constant S480x256 .f32 0x00000000#32)) bitsLt_bf16_f32 : FVec F S480x256 .bf16)
    shapeCasts_S480x256_S1x480x256

end Cert.KernelIdeal.Dx

end
-- ==== Proof.Quant.lean ====
/- The quantiser on one block, over the reals: the kernel's scalars (the exponent found bit by bit, powers of two made from bits) and the
   reference's (logarithm, floor, powers), and that they agree. -/
module

public import Idealize.ShloMosaic.Lib.Pointwise

@[expose] public section

noncomputable section

namespace Cert.Quant

open Idealize.ShloMosaic

/-! ## The kernel's scalars -/

/-- The power of two (or zero, or infinity) whose exponent field is `t`. -/
def ofField (t : BitVec 32) : EReal := Ideal.ofBits .f32 (IntOp.shli .vector t 23#32)

/-- One step of the search for the exponent field. -/
def step (b : BitVec 32) (p : EReal) (e : BitVec 32) : BitVec 32 :=
  if ofField (IntOp.addi e b) ≤ p then IntOp.addi e b else e

/-- The exponent field of `p`. -/
def field (p : EReal) : BitVec 32 :=
  step 1#32 p (step 2#32 p (step 4#32 p (step 8#32 p (step 16#32 p (step 32#32 p (step 64#32 p (step 128#32 p 0#32)))))))

/-- The biased exponent of the block's scale. -/
def byte (p : EReal) : BitVec 32 :=
  Scalar.select (IntOp.ori (IntOp.cmpi .eq (field p) 0#32) (IntOp.cmpi .eq (field p) 255#32)) (127#32) (IntOp.addi (field p) 1#32)

/-- The power a block is multiplied with. -/
def inv (p : EReal) : EReal := ofField (IntOp.subi 254#32 (byte p))

/-- The block's scale. -/
def scale (p : EReal) : EReal := ofField (byte p)

/-- The exponent as stored. -/
def byte8 (p : EReal) : BitVec 8 := BitVec.setWidth 8 (byte p)

/-- A block's greatest magnitude over 448. -/
def amp (u : Fin 32 → EReal) : EReal :=
  Finset.fold max (Ideal.ofBits .bf16 65408#16) (fun k => max (u k) (-(u k))) Finset.univ * Ideal.ofBits .f32 991054117#32

/-- A code: the value by the block's power, clipped. -/
def code (s u : EReal) : EReal :=
  min (Ideal.ofBits .f32 1138753536#32) (max (Ideal.ofBits .f32 3286237184#32) (u * s))

/-! ## The reference's scalars -/

/-- The exponent of the block's scale. -/
def rexp (p : EReal) : EReal :=
  Scalar.select (Ideal.cmp .olt p (Ideal.ofBits .f32 8388608#32)) (Ideal.ofBits .f32 0#32)
    (Ideal.liftRound Int.floor (Ideal.div (Ideal.log p) (Ideal.log (Ideal.ofBits .f32 1073741824#32))) + Ideal.ofBits .f32 1065353216#32)

/-- The exponent as stored. -/
def rbyte (e : EReal) : BitVec 8 := BitVec.setWidth 8 (IntOp.addi (Ideal.fptosi 32 e) 127#32)

/-! ## A line of blocks -/

/-- The `g`-th block of 32 along a line. -/
def blk {N : ℕ} (row : Fin N → EReal) (g : ℕ) (hg : g * 32 + 32 ≤ N) : Fin 32 → EReal := fun k => row ⟨g * 32 + k.val, by omega⟩

/-- A block lies within its row. -/
theorem blk_le {N : ℕ} (hN : N % 32 = 0) (n : Fin N) : n.val / 32 * 32 + 32 ≤ N := by omega

/-- The code of the element at `n`. -/
def rowCode {N : ℕ} (hN : N % 32 = 0) (row : Fin N → EReal) (n : Fin N) : EReal :=
  code (inv (amp (blk row (n.val / 32) (blk_le hN n)))) (row n)

/-- The element at `n` after coding and decoding. -/
def rowWide {N : ℕ} (hN : N % 32 = 0) (row : Fin N → EReal) (n : Fin N) : EReal :=
  rowCode hN row n * scale (amp (blk row (n.val / 32) (blk_le hN n)))

/-- The exponent of block `g` as the reference stores it. -/
def rowByte {N : ℕ} (row : Fin N → EReal) (g : ℕ) (hg : g * 32 + 32 ≤ N) : BitVec 8 := byte8 (amp (blk row g hg))

/-- The exponent of block `g` after a trip through a float. -/
def rowTrip {N : ℕ} (row : Fin N → EReal) (g : ℕ) (hg : g * 32 + 32 ≤ N) : BitVec 8 :=
  BitVec.setWidth 8 (Ideal.fptosi 32 (((byte (amp (blk row g hg))).toInt : ℝ) : EReal))

/-! ## They agree -/

/-- A word made of an exponent field has no sign, that exponent and no fraction. -/
theorem field_bits : ∀ t : Fin 256, (IntOp.shli .vector (BitVec.ofNat 32 t.val) 23#32).extractLsb' 31 1 = 0#1
    ∧ ((IntOp.shli .vector (BitVec.ofNat 32 t.val) 23#32).extractLsb' 23 8).toNat = t.val
    ∧ ((IntOp.shli .vector (BitVec.ofNat 32 t.val) 23#32).extractLsb' 0 23).toNat = 0 := by decide +kernel

/-- A field other than 0 and 255 is a power of two. -/
theorem ofField_pow (t : ℕ) (h0 : 0 < t) (h1 : t < 255) : ofField (BitVec.ofNat 32 t) = (((2 : ℝ) ^ ((t : ℤ) - 127) : ℝ) : EReal) := by
  obtain ⟨a, b, c⟩ := field_bits ⟨t, by omega⟩
  dsimp only at a b c
  unfold ofField Ideal.ofBits Ideal.ieee
  dsimp only
  rw [b, c, if_neg (by norm_num; omega), if_neg (by omega), show (8 + 23 : ℕ) = 31 from rfl, a]
  refine congrArg _ ?_
  rw [show ((t : ℤ) - 127) = ((t : ℤ) - (2 ^ (8 - 1) - 1) - (23 : ℕ)) + (23 : ℕ) by norm_num, zpow_add₀ two_ne_zero]
  norm_num
  exact mul_comm _ _

/-- Field 0 is zero. -/
theorem ofField_zero : ofField (BitVec.ofNat 32 0) = 0 := by
  obtain ⟨a, b, c⟩ := field_bits ⟨0, by omega⟩
  dsimp only at a b c
  unfold ofField Ideal.ofBits Ideal.ieee
  dsimp only
  rw [b, c]
  norm_num

/-- Field 255 is infinite. -/
theorem ofField_top : ofField (BitVec.ofNat 32 255) = ⊤ := by
  obtain ⟨a, b, c⟩ := field_bits ⟨255, by omega⟩
  dsimp only at a b c
  unfold ofField Ideal.ofBits Ideal.ieee
  dsimp only
  rw [b, c, show (8 + 23 : ℕ) = 31 from rfl, a]
  norm_num

/-- The zero word is the real zero. -/
theorem ofField_zero' : ((0 : ℝ) : EReal) = Ideal.ofBits .f32 0#32 := by
  have h := ofField_zero
  exact h.symm

/-- Different small numbers compare as different. -/
theorem cmpi_ne (a b : ℕ) (ha : a < 256) (hb : b < 256) (h : a ≠ b) : IntOp.cmpi .eq (BitVec.ofNat 32 a) (BitVec.ofNat 32 b) = 0#1 := by
  unfold IntOp.cmpi
  have : BitVec.ofNat 32 a ≠ BitVec.ofNat 32 b := fun hc => h (by
    have := congrArg BitVec.toNat hc
    simp only [BitVec.toNat_ofNat] at this
    omega)
  show BitVec.ofBool (BitVec.ofNat 32 a == BitVec.ofNat 32 b) = 0#1
  rw [beq_eq_false_iff_ne.mpr this]
  rfl

/-- The step on a field given as a number. -/
theorem step_nat (b t : ℕ) (p : EReal) :
    step (BitVec.ofNat 32 b) p (BitVec.ofNat 32 t) = BitVec.ofNat 32 (if ofField (BitVec.ofNat 32 (t + b)) ≤ p then t + b else t) := by
  unfold step
  rw [show IntOp.addi (BitVec.ofNat 32 t) (BitVec.ofNat 32 b) = BitVec.ofNat 32 (t + b) from (BitVec.ofNat_add ..).symm]
  split <;> rfl

/-- What the search keeps: the field's power is at most `p`, the power one range further is not. -/
def Bracket (p : EReal) (r t : ℕ) : Prop :=
  ofField (BitVec.ofNat 32 t) ≤ p ∧ (p < ofField (BitVec.ofNat 32 (t + r)) ∨ t + r = 256) ∧ t + r ≤ 256

/-- A step halves the bracket around the field. -/
theorem step_bracket (b t : ℕ) (p : EReal) (h : Bracket p (b + b) t) :
    ∃ t', step (BitVec.ofNat 32 b) p (BitVec.ofNat 32 t) = BitVec.ofNat 32 t' ∧ Bracket p b t' := by
  rw [step_nat]
  refine ⟨_, rfl, ?_⟩
  split
  · rename_i hle
    exact ⟨hle, by rw [Nat.add_assoc]; exact h.2⟩
  · rename_i hle
    exact ⟨h.1, Or.inl (not_le.mp hle), le_trans (by omega) h.2.2⟩

/-- The bisection ends in a bracket of width one. -/
theorem field_bracket (p : EReal) (hp : 0 ≤ p) : ∃ t, field p = BitVec.ofNat 32 t ∧ Bracket p 1 t := by
  have h8 : Bracket p (128 + 128) 0 := ⟨by rw [ofField_zero]; exact hp, Or.inr rfl, le_refl _⟩
  obtain ⟨t7, e7, h7⟩ := step_bracket 128 0 p h8
  obtain ⟨t6, e6, h6⟩ := step_bracket 64 t7 p h7
  obtain ⟨t5, e5, h5⟩ := step_bracket 32 t6 p h6
  obtain ⟨t4, e4, h4⟩ := step_bracket 16 t5 p h5
  obtain ⟨t3, e3, h3⟩ := step_bracket 8 t4 p h4
  obtain ⟨t2, e2, h2⟩ := step_bracket 4 t3 p h3
  obtain ⟨t1, e1, h1⟩ := step_bracket 2 t2 p h2
  obtain ⟨t0, e0, h0⟩ := step_bracket 1 t1 p h1
  refine ⟨t0, ?_, h0⟩
  unfold field
  rw [e7, e6, e5, e4, e3, e2, e1, e0]

/-- The bits of the reference's constants. -/
theorem tiny_eq : Ideal.ofBits .f32 8388608#32 = (((2 : ℝ) ^ (-126 : ℤ) : ℝ) : EReal) := ofField_pow 1 (by omega) (by omega)

/-- The word of 2 is 2. -/
theorem two_eq : Ideal.ofBits .f32 1073741824#32 = ((2 : ℝ) : EReal) := by
  have h := ofField_pow 128 (by omega) (by omega)
  norm_num at h
  exact h

/-- The word of 1 is 1. -/
theorem one_eq : Ideal.ofBits .f32 1065353216#32 = ((1 : ℝ) : EReal) := by
  have h := ofField_pow 127 (by omega) (by omega)
  norm_num at h
  exact h

/-- The kernel's byte, as the reference's exponent says it. -/
theorem byte_eq (p : ℝ) (hp : 0 ≤ p) (hp' : p < (2 : ℝ) ^ (126 : ℤ)) :
    ∃ n : ℕ, 2 ≤ n ∧ n ≤ 253 ∧ byte (p : EReal) = BitVec.ofNat 32 n ∧ rexp (p : EReal) = ((((n : ℤ) - 127 : ℤ) : ℝ) : EReal) := by
  obtain ⟨t, ht, hlo, hhi, h256⟩ := field_bracket (p : EReal) (by exact_mod_cast hp)
  have h252 : t ≤ 252 := by
    by_contra hc
    rcases Nat.lt_or_ge t 255 with h | h
    · rw [ofField_pow t (by omega) h, EReal.coe_le_coe_iff] at hlo
      have : (2 : ℝ) ^ (126 : ℤ) ≤ (2 : ℝ) ^ ((t : ℤ) - 127) := zpow_le_zpow_right₀ (by norm_num) (by omega)
      linarith
    · obtain rfl : t = 255 := by omega
      rw [ofField_top] at hlo
      exact absurd hlo (not_le.mpr (EReal.coe_lt_top p))
  have hhi' : p < (2 : ℝ) ^ ((t : ℤ) - 126) := by
    rcases hhi with hhi | hhi
    · rw [ofField_pow (t + 1) (by omega) (by omega), EReal.coe_lt_coe_iff] at hhi
      rwa [show ((t + 1 : ℕ) : ℤ) - 127 = (t : ℤ) - 126 by push_cast; ring] at hhi
    · omega
  rcases Nat.eq_zero_or_pos t with rfl | hpos
  · refine ⟨127, by omega, by omega, ?_, ?_⟩
    · unfold byte
      rw [ht]
      rfl
    · unfold rexp
      rw [tiny_eq, show Ideal.cmp .olt (p : EReal) (((2 : ℝ) ^ (-126 : ℤ) : ℝ) : EReal) = 1#1 from ?_]
      · rw [show ∀ a b : EReal, Scalar.select 1#1 a b = a from fun _ _ => rfl, ← ofField_zero']
        norm_num
      · unfold Ideal.cmp
        rw [show decide ((p : EReal) < (((2 : ℝ) ^ (-126 : ℤ) : ℝ) : EReal)) = true from decide_eq_true (by exact_mod_cast hhi')]
        rfl
  · refine ⟨t + 1, by omega, by omega, ?_, ?_⟩
    · unfold byte
      rw [ht, show IntOp.cmpi .eq (BitVec.ofNat 32 t) 0#32 = 0#1 from cmpi_ne t 0 (by omega) (by omega) (by omega),
        show IntOp.cmpi .eq (BitVec.ofNat 32 t) 255#32 = 0#1 from cmpi_ne t 255 (by omega) (by omega) (by omega)]
      exact (BitVec.ofNat_add ..).symm
    · rw [ofField_pow t hpos (by omega), EReal.coe_le_coe_iff] at hlo
      have hp0 : 0 < p := lt_of_lt_of_le (zpow_pos (by norm_num) _) hlo
      have htiny : (2 : ℝ) ^ (-126 : ℤ) ≤ p := le_trans (zpow_le_zpow_right₀ (by norm_num) (by omega)) hlo
      have hl2 : 0 < Real.log 2 := Real.log_pos (by norm_num)
      have hfl : ⌊Real.log p / Real.log 2⌋ = (t : ℤ) - 127 := by
        rw [Int.floor_eq_iff]
        constructor
        · rw [le_div_iff₀ hl2, ← Real.log_zpow]
          exact Real.log_le_log (zpow_pos (by norm_num) _) hlo
        · rw [div_lt_iff₀ hl2, show (((t : ℤ) - 127 : ℤ) : ℝ) + 1 = (((t : ℤ) - 126 : ℤ) : ℝ) by push_cast; ring, ← Real.log_zpow]
          exact Real.log_lt_log hp0 hhi'
      unfold rexp
      rw [tiny_eq, show Ideal.cmp .olt (p : EReal) (((2 : ℝ) ^ (-126 : ℤ) : ℝ) : EReal) = 0#1 from ?_]
      · rw [show ∀ a b : EReal, Scalar.select 0#1 a b = b from fun _ _ => rfl, two_eq, one_eq, Ideal.log_coe, Ideal.log_coe,
          if_neg (by linarith), if_neg (by norm_num), Ideal.div_coe hl2.ne', ← EReal.coe_mul, Ideal.liftRound_coe, ← EReal.coe_add]
        refine congrArg _ ?_
        rw [show Real.log p * (1 / Real.log 2) = Real.log p / Real.log 2 by ring, hfl]
        push_cast
        ring
      · unfold Ideal.cmp
        rw [show decide ((p : EReal) < (((2 : ℝ) ^ (-126 : ℤ) : ℝ) : EReal)) = false from decide_eq_false (by
          rw [EReal.coe_lt_coe_iff]; exact not_lt.mpr htiny)]
        rfl

/-- The kernel's and the reference's powers and stored exponents of one block agree. -/
theorem agree (p : ℝ) (hp : 0 ≤ p) (hp' : p < (2 : ℝ) ^ (126 : ℤ)) :
    Ideal.exp2 (0 - rexp (p : EReal)) = inv (p : EReal) ∧ Ideal.exp2 (rexp (p : EReal)) = scale (p : EReal)
      ∧ rbyte (rexp (p : EReal)) = byte8 (p : EReal) ∧ ∃ n : ℕ, n < 256 ∧ byte (p : EReal) = BitVec.ofNat 32 n := by
  obtain ⟨n, h2, h253, hb, he⟩ := byte_eq p hp hp'
  refine ⟨?_, ?_, ?_, n, by omega, hb⟩
  · rw [he, inv, hb, show IntOp.subi 254#32 (BitVec.ofNat 32 n) = BitVec.ofNat 32 (254 - n) from ?_, ofField_pow _ (by omega) (by omega),
      show (0 : EReal) = ((0 : ℝ) : EReal) from rfl, ← EReal.coe_sub, Ideal.exp2_coe]
    · refine congrArg _ ?_
      rw [Real.rpow_eq_pow]
      rw [← Real.rpow_intCast]
      congr 1
      push_cast [Nat.cast_sub (show n ≤ 254 by omega)]
      ring
    · apply BitVec.eq_of_toNat_eq
      show (254#32 - BitVec.ofNat 32 n).toNat = _
      simp only [BitVec.toNat_sub, BitVec.toNat_ofNat]
      omega
  · rw [he, scale, hb, ofField_pow _ (by omega) (by omega), Ideal.exp2_coe]
    refine congrArg _ ?_
    rw [Real.rpow_eq_pow]
    rw [← Real.rpow_intCast]
  · rw [rbyte, byte8, hb, he]
    refine congrArg _ ?_
    unfold Ideal.fptosi
    rw [Ideal.toIntClamped_coe]
    have : ∀ z : ℤ, (if (0 : ℝ) ≤ (z : ℝ) then ⌊(z : ℝ)⌋ else ⌈(z : ℝ)⌉) = z := fun z => by simp
    rw [this, show max (-((2 ^ (32 - 1) : ℕ) : ℤ)) (min (((2 ^ (32 - 1) : ℕ) : ℤ) - 1) ((n : ℤ) - 127)) = (n : ℤ) - 127 by
      norm_num; omega]
    show BitVec.ofInt 32 _ + 127#32 = _
    rw [show (127#32) = BitVec.ofInt 32 127 from rfl, ← BitVec.ofInt_add]
    norm_num

/-- A byte survives the trip through a float on its way to storage. -/
theorem byte8_trip (p : EReal) (n : ℕ) (hn : n < 256) (hb : byte p = BitVec.ofNat 32 n) :
    BitVec.setWidth 8 (Ideal.fptosi 32 (((byte p).toInt : ℝ) : EReal)) = byte8 p := by
  rw [byte8, hb]
  refine congrArg _ ?_
  have hi : (BitVec.ofNat 32 n).toInt = (n : ℤ) := by
    rw [BitVec.toInt_eq_toNat_of_lt] <;> simp only [BitVec.toNat_ofNat] <;> omega
  rw [hi]
  unfold Ideal.fptosi
  rw [Ideal.toIntClamped_coe]
  have : ∀ z : ℤ, (if (0 : ℝ) ≤ (z : ℝ) then ⌊(z : ℝ)⌋ else ⌈(z : ℝ)⌉) = z := fun z => by simp
  rw [this, show max (-((2 ^ (32 - 1) : ℕ) : ℤ)) (min (((2 ^ (32 - 1) : ℕ) : ℤ) - 1) (n : ℤ)) = (n : ℤ) by norm_num; omega]
  norm_num

/-- The two patterns of minus infinity. -/
theorem bot16 : Ideal.ofBits .bf16 65408#16 = ⊥ := by
  unfold Ideal.ofBits Ideal.ieee
  dsimp only
  rw [show ((65408#16 : BitVec 16).extractLsb' 7 8).toNat = 255 from rfl,
    show ((65408#16 : BitVec 16).extractLsb' 0 7).toNat = 0 from rfl,
    show ((65408#16 : BitVec 16).extractLsb' (8 + 7) 1) = 1#1 from rfl]
  norm_num

/-- The word of minus infinity is the least element. -/
theorem bot32 : Ideal.ofBits .f32 4286578688#32 = ⊥ := by
  unfold Ideal.ofBits Ideal.ieee
  dsimp only
  rw [show ((4286578688#32 : BitVec 32).extractLsb' 23 8).toNat = 255 from rfl,
    show ((4286578688#32 : BitVec 32).extractLsb' 0 23).toNat = 0 from rfl,
    show ((4286578688#32 : BitVec 32).extractLsb' (8 + 23) 1) = 1#1 from rfl]
  norm_num

/-- A finite block's greatest magnitude over 448, a real in the quantiser's range. -/
theorem amp_real (u : Fin 32 → EReal) (hu : ∀ k, max (u k) (-(u k)) ≤ Ideal.ofBits .bf16 32639#16) :
    ∃ p : ℝ, amp u = (p : EReal) ∧ 0 ≤ p ∧ p < (2 : ℝ) ^ (126 : ℤ) := by
  have hc : Ideal.ofBits .f32 991054117#32 = (((2 ^ 23 + 1198373 : ℕ) * (2 : ℝ) ^ (-32 : ℤ) : ℝ) : EReal) := by
    unfold Ideal.ofBits Ideal.ieee
    dsimp only
    rw [show ((991054117#32 : BitVec 32).extractLsb' 23 8).toNat = 118 from rfl,
      show ((991054117#32 : BitVec 32).extractLsb' 0 23).toNat = 1198373 from rfl,
      show ((991054117#32 : BitVec 32).extractLsb' (8 + 23) 1) = 0#1 from rfl]
    norm_num
  have hB : Ideal.ofBits .bf16 32639#16 = (((2 ^ 7 + 127 : ℕ) * (2 : ℝ) ^ (120 : ℤ) : ℝ) : EReal) := by
    unfold Ideal.ofBits Ideal.ieee
    dsimp only
    rw [show ((32639#16 : BitVec 16).extractLsb' 7 8).toNat = 254 from rfl,
      show ((32639#16 : BitVec 16).extractLsb' 0 7).toNat = 127 from rfl,
      show ((32639#16 : BitVec 16).extractLsb' (8 + 7) 1) = 0#1 from rfl]
    norm_num
  have hle : Finset.fold max (Ideal.ofBits .bf16 65408#16) (fun k => max (u k) (-(u k))) Finset.univ ≤ Ideal.ofBits .bf16 32639#16 := by
    rw [Finset.fold_max_le]
    exact ⟨by rw [bot16]; exact bot_le, fun k _ => hu k⟩
  have h0 : 0 ≤ Finset.fold max (Ideal.ofBits .bf16 65408#16) (fun k => max (u k) (-(u k))) Finset.univ := by
    rw [Finset.le_fold_max]
    refine Or.inr ⟨0, Finset.mem_univ _, ?_⟩
    rcases le_total 0 (u 0) with h | h
    · exact le_trans h (le_max_left _ _)
    · exact le_trans (EReal.neg_nonneg.mpr h) (le_max_right _ _)
  unfold amp
  generalize Finset.fold max (Ideal.ofBits .bf16 65408#16) (fun k => max (u k) (-(u k))) Finset.univ = a at hle h0
  rw [hB] at hle
  rw [hc]
  induction a using EReal.rec with
  | bot => simp at h0
  | top => exact absurd hle (not_le.mpr (EReal.coe_lt_top _))
  | coe a =>
    rw [EReal.coe_le_coe_iff] at hle
    have h0' : 0 ≤ a := by exact_mod_cast h0
    refine ⟨a * _, (EReal.coe_mul _ _).symm, by positivity, ?_⟩
    refine lt_of_le_of_lt (mul_le_mul_of_nonneg_right hle (by positivity)) ?_
    norm_num

/-- All of it for one finite block. -/
theorem agree_block (u : Fin 32 → EReal) (hu : ∀ k, max (u k) (-(u k)) ≤ Ideal.ofBits .bf16 32639#16) :
    Ideal.exp2 (0 - rexp (amp u)) = inv (amp u) ∧ Ideal.exp2 (rexp (amp u)) = scale (amp u) ∧ rbyte (rexp (amp u)) = byte8 (amp u)
      ∧ BitVec.setWidth 8 (Ideal.fptosi 32 (((byte (amp u)).toInt : ℝ) : EReal)) = byte8 (amp u) := by
  obtain ⟨p, hp, h0, h1⟩ := amp_real u hu
  rw [hp]
  obtain ⟨a, b, c, n, hn, hb⟩ := agree p h0 h1
  exact ⟨a, b, c, byte8_trip _ n hn hb⟩

end Cert.Quant

end
-- ==== Proof.DxPiece.lean ====
/- What one piece's stores hold over the reals: the row's codes, exponents and values at the piece's place. -/
module

public import proofs.«01_k».proof.Proof.DxQ
public import proofs.«01_k».proof.Proof.Quant
public import Idealize.ShloMosaic.Lib.WholeRead
public import Idealize.ShloMosaic.Lib.Pipeline.ValueKit.Geometry

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Cert.Quant

/-- A row of a chunk. -/
def lane (x : Vec Ideal S1x256x4096 .bf16) (r : Fin 256) : Fin 4096 → EReal := fun n => x (ix3 (0 : Fin 1) r n)

/-- A chunk's codes. -/
def Codes (x : Vec Ideal S1x256x4096 .bf16) : Vec Ideal S1x256x4096 .fp8e4m3 := fun j => rowCode (by decide) (lane x (j 1)) (j 2)

/-- A chunk's exponents. -/
def Bytes (x : Vec Ideal S1x256x4096 .bf16) : Vec Ideal S1x256x128 .i8 := fun j =>
  rowTrip (lane x (j 1)) (j 2).val (by have h : (j 2).val < 128 := (j 2).isLt; omega)

/-- A chunk's values after coding and decoding. -/
def Wide (x : Vec Ideal S1x256x4096 .bf16) : Vec Ideal S256x4096 .bf16 := fun j => rowWide (by decide) (lane x (j 0)) (j 1)

/-- A chunk's product. -/
def Prod (w : Vec Ideal S2880x4096 .bf16) (a : Vec Ideal S256x4096 .bf16) : Vec Ideal S1x2880x256 .bf16 := fun j =>
  ∑ n : Fin 4096, w (ix2 (j 1 : Fin 2880) n) * a (ix2 (j 2 : Fin 256) n)

/-- A block's greatest absolute value, at an index. -/
theorem amp_apply (v : FVec Ideal S128x512 .bf16) (j : S16x128.Idx) :
    ampV v j = amp (fun k => v (ix2 (j 1 : Fin 128) (⟨(j 0).val * 32 + k.val, by have h : (j 0).val < 16 := (j 0).isLt; omega⟩ : Fin 512))) := by
  pointwise [ampV]
  rfl

/-- A scale spread over its block, at an index. -/
theorem spread_apply (s : FVec Ideal S16x128 .bf16) (j : S128x512.Idx) :
    spreadV s j = s (ix2 (⟨(j 1).val / 32, by have h : (j 1).val < 512 := (j 1).isLt; omega⟩ : Fin 16) (j 0 : Fin 128)) := by
  pointwise [spreadV]

/-- One step of the bisection, at an index. -/
theorem step_apply (b : BitVec 32) (p : FVec Ideal S16x128 .f32) (e : IVec S16x128 32) (j : S16x128.Idx) : stepV b p e j = step b (p j) (e j) := by
  pointwise [stepV]
  rfl

/-- The exponent field, at an index. -/
theorem field_apply (p : FVec Ideal S16x128 .f32) (j : S16x128.Idx) : fieldV p j = field (p j) := by
  unfold fieldV field
  rw [step_apply, step_apply, step_apply, step_apply, step_apply, step_apply, step_apply, step_apply]
  rfl

/-- The choice of the byte, at an index. -/
theorem byte_of (t : IVec S16x128 32) (j : S16x128.Idx) :
    select (ori (cmpi .eq t (broadcast S16x128 0#32)) (cmpi .eq t (broadcast S16x128 255#32))) (broadcast S16x128 127#32) (addi t (broadcast S16x128 1#32)) j
      = Scalar.select (IntOp.ori (IntOp.cmpi .eq (t j) 0#32) (IntOp.cmpi .eq (t j) 255#32)) (127#32) (IntOp.addi (t j) 1#32) := by
  pointwise []

/-- The exponent byte, at an index. -/
theorem byte_apply (p : FVec Ideal S16x128 .f32) (j : S16x128.Idx) : byteV p j = byte (p j) := by
  unfold byteV byte
  rw [byte_of, field_apply]

/-- The inverse scale from the byte, at an index. -/
theorem inv_of (t : IVec S16x128 32) (j : S16x128.Idx) :
    (truncf .bf16 (bitcastToFloat .f32 (shli (subi (broadcast S16x128 254#32) t) (broadcast S16x128 23#32)) : FVec Ideal S16x128 .f32) bitsLt_bf16_f32) j
      = ofField (IntOp.subi 254#32 (t j)) := rfl

/-- The scale from the byte, at an index. -/
theorem scale_of (t : IVec S16x128 32) (j : S16x128.Idx) :
    (truncf .bf16 (bitcastToFloat .f32 (shli t (broadcast S16x128 23#32)) : FVec Ideal S16x128 .f32) bitsLt_bf16_f32) j = ofField (t j) := rfl

/-- The inverse scale, at an index. -/
theorem inv_apply (p : FVec Ideal S16x128 .f32) (j : S16x128.Idx) : invV p j = inv (p j) := by
  unfold invV Cert.Quant.inv
  rw [inv_of, byte_apply]

/-- The scale, at an index. -/
theorem scale_apply (p : FVec Ideal S16x128 .f32) (j : S16x128.Idx) : scaleV p j = scale (p j) := by
  unfold scaleV Cert.Quant.scale
  rw [scale_of, byte_apply]

/-- The codes, at an index. -/
theorem code_apply (v : FVec Ideal S128x512 .bf16) (j : S128x512.Idx) : codesV v j = code (spreadV (invV (ampV v)) j) (v j) := rfl

/-- A piece without its leading axis, at an index. -/
theorem cast1_apply (v : Vec Ideal S1x128x512 .bf16) (j : S128x512.Idx) : cast1 v j = v (ix3 (0 : Fin 1) (j 0 : Fin 128) (j 1 : Fin 512)) := by
  pointwise [cast1]

/-- The codes as stored, at an index. -/
theorem up_apply (v : FVec Ideal S128x512 .fp8e4m3) (j : S1x128x512.Idx) :
    shapeCast S1x128x512 v shapeCasts_S128x512_S1x128x512 j = v (ix2 (j 1 : Fin 128) (j 2 : Fin 512)) := by
  pointwise []

/-- A cast to the same shape moves nothing. -/
theorem same_apply (v : FVec Ideal S128x512 .bf16) (j : S128x512.Idx) : shapeCast S128x512 v shapeCasts_S128x512_S128x512 j = v j := by
  pointwise []

/-- The values are the codes times the scales. -/
theorem wide_mul (q : FVec Ideal S128x512 .fp8e4m3) (z : FVec Ideal S128x512 .bf16) (j : S128x512.Idx) :
    (mulf (extf .bf16 q bitsLt_fp8e4m3_bf16) z : FVec Ideal S128x512 .bf16) j = q j * z j := rfl

/-- The piece loaded at a place of a chunk. -/
def At (x : Vec Ideal S1x256x4096 .bf16) (v : Vec Ideal S1x128x512 .bf16) (r c : ℕ) (hr : r + 128 ≤ 256) (hc : c + 512 ≤ 4096) : Prop :=
  ∀ (a : Fin 128) (b : Fin 512), v (ix3 (0 : Fin 1) a b) = lane x ⟨r + a.val, by omega⟩ ⟨c + b.val, by omega⟩

section

variable {x : Vec Ideal S1x256x4096 .bf16} {v : Vec Ideal S1x128x512 .bf16} {r c : ℕ} {hr : r + 128 ≤ 256} {hc : c + 512 ≤ 4096}

/-- A loaded piece has the row's block maxima. -/
theorem At.amp (h : At x v r c hr hc) (h32 : c % 32 = 0) (g : Fin 16) (a : Fin 128) :
    ampV (cast1 v) (ix2 g a) = Cert.Quant.amp (blk (lane x ⟨r + a.val, by omega⟩) (c / 32 + g.val) (by omega)) := by
  rw [amp_apply]
  refine congrArg Cert.Quant.amp (funext fun k => ?_)
  rw [cast1_apply]
  refine (h a ⟨g.val * 32 + k.val, by omega⟩).trans ?_
  unfold blk
  refine congrArg _ (Fin.ext ?_)
  show c + (g.val * 32 + k.val) = (c / 32 + g.val) * 32 + k.val
  omega

/-- Equal block numbers give the same block. -/
theorem blk_congr {N : ℕ} (row : Fin N → EReal) {g g' : ℕ} (e : g = g') (hg : g * 32 + 32 ≤ N) (hg' : g' * 32 + 32 ≤ N) : blk row g hg = blk row g' hg' := by
  subst e; rfl

/-- A loaded piece has the row's codes. -/
theorem At.codes (h : At x v r c hr hc) (h32 : c % 32 = 0) (a : Fin 128) (b : Fin 512) :
    codesV (cast1 v) (ix2 a b) = rowCode (by decide) (lane x ⟨r + a.val, by omega⟩) ⟨c + b.val, by omega⟩ := by
  rw [code_apply, spread_apply, inv_apply]
  refine (congrArg₂ (fun p u => code (inv p) u) (h.amp h32 ⟨b.val / 32, by omega⟩ a) ((cast1_apply v _).trans (h a b))).trans ?_
  unfold rowCode
  rw [blk_congr _ (show c / 32 + b.val / 32 = (c + b.val) / 32 by omega)]

/-- A loaded piece has the row's scales. -/
theorem At.scale (h : At x v r c hr hc) (h32 : c % 32 = 0) (a : Fin 128) (b : Fin 512) :
    spreadV (scaleV (ampV (cast1 v))) (ix2 a b)
      = Cert.Quant.scale (Cert.Quant.amp (blk (lane x ⟨r + a.val, by omega⟩) ((c + b.val) / 32) (blk_le (by decide) ⟨c + b.val, by omega⟩))) := by
  rw [spread_apply, scale_apply]
  refine (congrArg Cert.Quant.scale (h.amp h32 ⟨b.val / 32, by omega⟩ a)).trans ?_
  dsimp only
  rw [blk_congr _ (show c / 32 + b.val / 32 = (c + b.val) / 32 by omega)]

/-- A loaded piece has the row's values. -/
theorem At.wide (h : At x v r c hr hc) (h32 : c % 32 = 0) (a : Fin 128) (b : Fin 512) :
    pieceWide v (ix2 a b) = rowWide (by decide) (lane x ⟨r + a.val, by omega⟩) ⟨c + b.val, by omega⟩ := by
  unfold pieceWide rowWide
  rw [same_apply, wide_mul, h.codes h32, h.scale h32]

/-- A loaded piece has the row's exponents. -/
theorem At.bytes (h : At x v r c hr hc) (h32 : c % 32 = 0) (g : Fin 16) (a : Fin 128) :
    pieceBytes v (ix2 g a) = byte (Cert.Quant.amp (blk (lane x ⟨r + a.val, by omega⟩) (c / 32 + g.val) (by omega))) := by
  unfold pieceBytes
  rw [byte_apply, h.amp h32]

end

/-- The piece lies within its array. -/
theorem inb_of (r q : ℕ) (hr : r + 128 ≤ 256) (hq : q + 512 ≤ 4096) (a : Fin 3) : (![0, r, q] : Fin 3 → ℕ) a + S1x128x512.size a ≤ S1x256x4096.size a := by
  fin_cases a
  · exact Nat.le_refl 1
  · exact hr
  · exact hq

/-- The piece lies within its array. -/
theorem inb2_of (r q : ℕ) (hr : r + 128 ≤ 256) (hq : q + 512 ≤ 4096) (a : Fin 2) : (![r, q] : Fin 2 → ℕ) a + S128x512.size a ≤ S256x4096.size a := by
  fin_cases a
  · exact hr
  · exact hq

/-- The piece lies within its array. -/
theorem inb3_of (r : ℕ) (hr : r + 128 ≤ 256) (a : Fin 3) : (![0, r, 0] : Fin 3 → ℕ) a + S1x128x128.size a ≤ S1x256x128.size a := by
  fin_cases a
  · exact Nat.le_refl 1
  · exact hr
  · exact Nat.le_refl 128

/-- The piece lies within its array. -/
theorem inb4_of (r : ℕ) (hr : r + 480 ≤ 2880) (a : Fin 3) : (![0, r, 0] : Fin 3 → ℕ) a + S1x480x256.size a ≤ S1x2880x256.size a := by
  fin_cases a
  · exact Nat.le_refl 1
  · exact hr
  · exact Nat.le_refl 256

/-- The piece lies within its array. -/
theorem inb5_of (r : ℕ) (hr : r + 480 ≤ 2880) (a : Fin 2) : (![r, 0] : Fin 2 → ℕ) a + S480x4096.size a ≤ S2880x4096.size a := by
  fin_cases a
  · exact hr
  · exact Nat.le_refl 4096

/-- A load of a piece. -/
theorem at_load {M : Memref sig .tc .vmem S1x256x4096 .bf16} (hM : M.IsWhole) (x : Vec Ideal S1x256x4096 .bf16) (r c : ℕ) (hr : r + 128 ≤ 256) (hc : c + 512 ≤ 4096)
    (inb : ∀ a, (![0, r, c] : Fin 3 → ℕ) a + S1x128x512.size a ≤ S1x256x4096.size a) :
    At x (View.readAt (Elt Ideal) M.view (Rect.unit (s := S1x256x4096) ![0, r, c] S1x128x512.size inb).toLoadRect (hM.unread x)) r c hr hc := by
  intro a b
  refine (hM.readAt_unread x _ _).trans ?_
  unfold lane
  refine congrArg x (funext fun k => Fin.ext ?_)
  refine (ValueKit.rect_emb_unit_val _ _ inb _ k).trans ?_
  fin_cases k <;> rfl

/-- The stored codes of a piece are the chunk's. -/
theorem codes_piece {M : Memref sig .tc .vmem S1x256x4096 .bf16} (hM : M.IsWhole) (x : Vec Ideal S1x256x4096 .bf16) (r c : ℕ) (hr : r + 128 ≤ 256) (hc : c + 512 ≤ 4096)
    (h32 : c % 32 = 0) (y : S1x128x512.Idx) :
    pieceCodes (View.readAt (Elt Ideal) M.view (Rect.unit (s := S1x256x4096) ![0, r, c] S1x128x512.size (inb_of r c hr hc)).toLoadRect (hM.unread x)) y
      = Codes x ((Rect.unit (s := S1x256x4096) ![0, r, c] S1x128x512.size (inb_of r c hr hc)).emb y) := by
  unfold pieceCodes Codes
  rw [up_apply]
  refine ((at_load hM x r c hr hc (inb_of r c hr hc)).codes h32 (y 1) (y 2)).trans ?_
  refine congrArg₂ (fun (p : Fin 256) (q : Fin 4096) => rowCode (by decide) (lane x p) q) (Fin.ext ?_) (Fin.ext ?_)
  · exact (ValueKit.rect_emb_unit_val (s := S1x256x4096) ![0, r, c] S1x128x512.size (inb_of r c hr hc) y 1).symm
  · exact (ValueKit.rect_emb_unit_val (s := S1x256x4096) ![0, r, c] S1x128x512.size (inb_of r c hr hc) y 2).symm

/-- The stored values of a piece are the chunk's. -/
theorem wide_piece {M : Memref sig .tc .vmem S1x256x4096 .bf16} (hM : M.IsWhole) (x : Vec Ideal S1x256x4096 .bf16) (r c : ℕ) (hr : r + 128 ≤ 256) (hc : c + 512 ≤ 4096)
    (h32 : c % 32 = 0) (y : S128x512.Idx) :
    pieceWide (View.readAt (Elt Ideal) M.view (Rect.unit (s := S1x256x4096) ![0, r, c] S1x128x512.size (inb_of r c hr hc)).toLoadRect (hM.unread x)) y
      = Wide x ((Rect.unit (s := S256x4096) ![r, c] S128x512.size (inb2_of r c hr hc)).emb y) := by
  unfold Wide
  rw [eq_ix2 y]
  refine ((at_load hM x r c hr hc (inb_of r c hr hc)).wide h32 (y 0) (y 1)).trans ?_
  refine congrArg₂ (fun (p : Fin 256) (q : Fin 4096) => rowWide (by decide) (lane x p) q) (Fin.ext ?_) (Fin.ext ?_)
  · exact (ValueKit.rect_emb_unit_val (s := S256x4096) ![r, c] S128x512.size (inb2_of r c hr hc) y 0).symm
  · exact (ValueKit.rect_emb_unit_val (s := S256x4096) ![r, c] S128x512.size (inb2_of r c hr hc) y 1).symm

/-- The trip of an exponent as stored. -/
def trip8 (b : BitVec 32) : BitVec 8 := BitVec.setWidth 8 (Ideal.fptosi 32 (((b.toInt : ℝ) : EReal)))

/-- The exponents of a row, from those of every piece. -/
theorem rows_apply (b0 b1 b2 b3 b4 b5 b6 b7 : IVec S16x128 32) (f : Fin 128 → BitVec 32) (a : Fin 128)
    (h0 : ∀ g : Fin 16, b0 (ix2 g a) = f ⟨0 + g.val, by omega⟩) (h1 : ∀ g : Fin 16, b1 (ix2 g a) = f ⟨16 + g.val, by omega⟩)
    (h2 : ∀ g : Fin 16, b2 (ix2 g a) = f ⟨32 + g.val, by omega⟩) (h3 : ∀ g : Fin 16, b3 (ix2 g a) = f ⟨48 + g.val, by omega⟩)
    (h4 : ∀ g : Fin 16, b4 (ix2 g a) = f ⟨64 + g.val, by omega⟩) (h5 : ∀ g : Fin 16, b5 (ix2 g a) = f ⟨80 + g.val, by omega⟩)
    (h6 : ∀ g : Fin 16, b6 (ix2 g a) = f ⟨96 + g.val, by omega⟩) (h7 : ∀ g : Fin 16, b7 (ix2 g a) = f ⟨112 + g.val, by omega⟩)
    (z : Fin 1) (n : Fin 128) : rowsBytes (F := Ideal) b0 b1 b2 b3 b4 b5 b6 b7 (ix3 z a n) = trip8 (f n) := by
  pointwise [rowsBytes]
  show trip8 _ = _
  refine congrArg trip8 ?_
  split_ifs <;> first
    | (rw [h0]; exact congrArg f (Fin.ext (by simp)))
    | (rw [h1]; exact congrArg f (Fin.ext (by simp; omega)))
    | (rw [h2]; exact congrArg f (Fin.ext (by simp; omega)))
    | (rw [h3]; exact congrArg f (Fin.ext (by simp; omega)))
    | (rw [h4]; exact congrArg f (Fin.ext (by simp; omega)))
    | (rw [h5]; exact congrArg f (Fin.ext (by simp; omega)))
    | (rw [h6]; exact congrArg f (Fin.ext (by simp; omega)))
    | (rw [h7]; exact congrArg f (Fin.ext (by simp; omega)))

/-- The stored exponents are the chunk's. -/
theorem bytes_piece {M : Memref sig .tc .vmem S1x256x4096 .bf16} (hM : M.IsWhole) (x : Vec Ideal S1x256x4096 .bf16) (r : ℕ) (hr : r + 128 ≤ 256) (y : S1x128x128.Idx) :
    rowsBytes (F := Ideal) (pieceBytes (View.readAt (Elt Ideal) M.view (Rect.unit (s := S1x256x4096) ![0, r, 0] S1x128x512.size (inb_of r 0 hr (by omega))).toLoadRect (hM.unread x)))
      (pieceBytes (View.readAt (Elt Ideal) M.view (Rect.unit (s := S1x256x4096) ![0, r, 512] S1x128x512.size (inb_of r 512 hr (by omega))).toLoadRect (hM.unread x)))
      (pieceBytes (View.readAt (Elt Ideal) M.view (Rect.unit (s := S1x256x4096) ![0, r, 1024] S1x128x512.size (inb_of r 1024 hr (by omega))).toLoadRect (hM.unread x)))
      (pieceBytes (View.readAt (Elt Ideal) M.view (Rect.unit (s := S1x256x4096) ![0, r, 1536] S1x128x512.size (inb_of r 1536 hr (by omega))).toLoadRect (hM.unread x)))
      (pieceBytes (View.readAt (Elt Ideal) M.view (Rect.unit (s := S1x256x4096) ![0, r, 2048] S1x128x512.size (inb_of r 2048 hr (by omega))).toLoadRect (hM.unread x)))
      (pieceBytes (View.readAt (Elt Ideal) M.view (Rect.unit (s := S1x256x4096) ![0, r, 2560] S1x128x512.size (inb_of r 2560 hr (by omega))).toLoadRect (hM.unread x)))
      (pieceBytes (View.readAt (Elt Ideal) M.view (Rect.unit (s := S1x256x4096) ![0, r, 3072] S1x128x512.size (inb_of r 3072 hr (by omega))).toLoadRect (hM.unread x)))
      (pieceBytes (View.readAt (Elt Ideal) M.view (Rect.unit (s := S1x256x4096) ![0, r, 3584] S1x128x512.size (inb_of r 3584 hr (by omega))).toLoadRect (hM.unread x))) y
      = Bytes x ((Rect.unit (s := S1x256x128) ![0, r, 0] S1x128x128.size (inb3_of r hr)).emb y) := by
  have H : ∀ (q : ℕ) (hq : q + 512 ≤ 4096) (h32 : q % 32 = 0) (g : Fin 16),
      pieceBytes (View.readAt (Elt Ideal) M.view (Rect.unit (s := S1x256x4096) ![0, r, q] S1x128x512.size (inb_of r q hr hq)).toLoadRect (hM.unread x)) (ix2 g (y 1 : Fin 128))
      = (fun n : Fin 128 => byte (Cert.Quant.amp (blk (lane x ⟨r + (y 1).val, by have h : (y 1).val < 128 := (y 1).isLt; omega⟩) n.val (by omega)))) ⟨q / 32 + g.val, by omega⟩ :=
    fun q hq h32 g => (at_load hM x r q hr hq (inb_of r q hr hq)).bytes h32 g (y 1)
  rw [eq_ix3 y]
  refine (rows_apply _ _ _ _ _ _ _ _ (fun n : Fin 128 => byte (Cert.Quant.amp (blk (lane x ⟨r + (y 1).val, by have h : (y 1).val < 128 := (y 1).isLt; omega⟩) n.val (by omega)))) (y 1 : Fin 128) (H 0 (by omega) rfl) (H 512 (by omega) rfl) (H 1024 (by omega) rfl) (H 1536 (by omega) rfl) (H 2048 (by omega) rfl) (H 2560 (by omega) rfl) (H 3072 (by omega) rfl) (H 3584 (by omega) rfl) (y 0 : Fin 1) (y 2 : Fin 128)).trans ?_
  unfold Bytes rowTrip
  refine congrArg (fun b => trip8 (byte (Cert.Quant.amp b))) ?_
  have e1 : (⟨r + (y 1).val, by have h : (y 1).val < 128 := (y 1).isLt; omega⟩ : Fin 256) = (Rect.unit (s := S1x256x128) ![0, r, 0] S1x128x128.size (inb3_of r hr)).emb y 1 :=
    Fin.ext (ValueKit.rect_emb_unit_val (s := S1x256x128) ![0, r, 0] S1x128x128.size (inb3_of r hr) y 1).symm
  have e2 : ((Rect.unit (s := S1x256x128) ![0, r, 0] S1x128x128.size (inb3_of r hr)).emb y 2).val = (y 2).val :=
    (ValueKit.rect_emb_unit_val (s := S1x256x128) ![0, r, 0] S1x128x128.size (inb3_of r hr) y 2).trans (Nat.zero_add _)
  rw [e1]
  exact blk_congr _ e2.symm _ _

/-- A block of the product, at an index. -/
theorem dot_apply (a : Vec Ideal S480x4096 .bf16) (b : Vec Ideal S256x4096 .bf16) (j : S1x480x256.Idx) :
    dotRows a b j = ∑ n : Fin 4096, a (ix2 (j 1 : Fin 480) n) * b (ix2 (j 2 : Fin 256) n) := by
  pointwise [dotRows]

/-- The stored block of the product is the chunk's. -/
theorem dot_piece {M : Memref sig .tc .vmem S2880x4096 .bf16} (hM : M.IsWhole) (w : Vec Ideal S2880x4096 .bf16) (b b' : Vec Ideal S256x4096 .bf16) (hb : b = b') (r : ℕ) (hr : r + 480 ≤ 2880) (y : S1x480x256.Idx) :
    dotRows (View.readAt (Elt Ideal) M.view (Rect.unit (s := S2880x4096) ![r, 0] S480x4096.size (inb5_of r hr)).toLoadRect (hM.unread w)) b y
      = Prod w b' ((Rect.unit (s := S1x2880x256) ![0, r, 0] S1x480x256.size (inb4_of r hr)).emb y) := by
  subst hb
  unfold Prod
  rw [dot_apply]
  refine Finset.sum_congr rfl fun n _ => ?_
  rw [Memref.IsWhole.readAt_unread hM w]
  refine congrArg₂ (· * ·) (congrArg w (funext fun k => Fin.ext ?_)) (congrArg b ?_)
  · refine (ValueKit.rect_emb_unit_val _ _ (inb5_of r hr) _ k).trans ?_
    fin_cases k
    · exact (ValueKit.rect_emb_unit_val (s := S1x2880x256) ![0, r, 0] S1x480x256.size (inb4_of r hr) y 1).symm
    · exact Nat.zero_add _
  · refine congrArg (fun q : Fin 256 => ix2 q n) (Fin.ext ?_)
    exact ((ValueKit.rect_emb_unit_val (s := S1x2880x256) ![0, r, 0] S1x480x256.size (inb4_of r hr) y 2).trans (Nat.zero_add _)).symm

end Cert.KernelIdeal.Dx

end
-- ==== Proof.DxKit.lean ====
/- What the runs of the dx kernel are stated over: its branch conditions in closed form, where its windows are idle, the memrefs of a point. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The step that only quantises (the first point). -/
abbrev condA (i : grid0.Coords) : Prop := k0_cond1 i = 1#1
/-- An odd step: multiplies slot a, fills slot b. -/
abbrev condB (i : grid0.Coords) : Prop := k0_cond2 i = 1#1
/-- An even step past the first: multiplies slot b, fills slot a. -/
abbrev condC (i : grid0.Coords) : Prop := k0_cond3 i = 1#1

/-- The first branch runs at the first step alone. -/
theorem hcondA : ∀ t : Fin cfg0.N, condA (grid0.coords t) ↔ t.val = 0 :=
  (by decide +kernel : ∀ t : Fin grid0.N, condA (grid0.coords t) ↔ t.val = 0)
/-- The second branch runs at the odd steps. -/
theorem hcondB : ∀ t : Fin cfg0.N, condB (grid0.coords t) ↔ t.val % 2 = 1 :=
  (by decide +kernel : ∀ t : Fin grid0.N, condB (grid0.coords t) ↔ t.val % 2 = 1)
/-- The third branch runs at the even steps after the first. -/
theorem hcondC : ∀ t : Fin cfg0.N, condC (grid0.coords t) ↔ (t.val % 2 = 0 ∧ t.val ≠ 0) :=
  (by decide +kernel : ∀ t : Fin grid0.N, condC (grid0.coords t) ↔ (t.val % 2 = 0 ∧ t.val ≠ 0))

/-! ## Where the windows are idle: the product's window at the first point only -/

/-- The window of the first input is in use. -/
theorem liveAt_0 : ∀ t : Fin cfg0.N, cfg0.idle 0 (grid0.coords t) = false := fun _ => rfl
/-- The window of the weights is in use. -/
theorem liveAt_1 : ∀ t : Fin cfg0.N, cfg0.idle 1 (grid0.coords t) = false := fun _ => rfl
/-- The product's window is idle at the first step. -/
theorem idleAt_2 : ∀ t : Fin cfg0.N, t.val = 0 → cfg0.idle 2 (grid0.coords t) = true := by decide +kernel
/-- The window of the product is in use. -/
theorem liveAt_2 : ∀ t : Fin cfg0.N, t.val ≠ 0 → cfg0.idle 2 (grid0.coords t) = false := by decide +kernel
/-- The window of the codes is in use. -/
theorem liveAt_3 : ∀ t : Fin cfg0.N, cfg0.idle 3 (grid0.coords t) = false := by decide +kernel
/-- The window of the exponents is in use. -/
theorem liveAt_4 : ∀ t : Fin cfg0.N, cfg0.idle 4 (grid0.coords t) = false := by decide +kernel
/-- The product's window is not written back at the first step. -/
theorem noflush_2 : ∀ t : Fin cfg0.N, t.val = 0 → (cfg0.win 2).flush t = false := by decide +kernel

/-! ## The memrefs the body is called with -/

/-- Each window's current staging memref at point `t`, spelled as the pipeline passes it (`bodyAt0`), and its wholeness. -/
abbrev ms0_0 (t : Fin cfg0.N) : Memref sig .tc .vmem S1x256x4096 .bf16 := win0_0.stage (cfg0.slots t 0)
/-- The staged window of the first input is whole. -/
abbrev hs0_0 (t : Fin cfg0.N) : (ms0_0 t).IsWhole := hstage0_0 ((cfg0.slots t 0).cast nbuf0_0)
/-- The staged window of the weights. -/
abbrev ms0_1 (t : Fin cfg0.N) : Memref sig .tc .vmem S2880x4096 .bf16 := win0_1.stage (cfg0.slots t 1)
/-- The staged window of the weights is whole. -/
abbrev hs0_1 (t : Fin cfg0.N) : (ms0_1 t).IsWhole := hstage0_1 ((cfg0.slots t 1).cast nbuf0_1)
/-- The staged window of the product. -/
abbrev ms0_2 (t : Fin cfg0.N) : Memref sig .tc .vmem S1x2880x256 .bf16 := win0_2.stage (cfg0.slots t 2)
/-- The staged window of the product is whole. -/
abbrev hs0_2 (t : Fin cfg0.N) : (ms0_2 t).IsWhole := hstage0_2 ((cfg0.slots t 2).cast nbuf0_2)
/-- The staged window of the codes. -/
abbrev ms0_3 (t : Fin cfg0.N) : Memref sig .tc .vmem S1x256x4096 .fp8e4m3 := win0_3.stage (cfg0.slots t 3)
/-- The staged window of the codes is whole. -/
abbrev hs0_3 (t : Fin cfg0.N) : (ms0_3 t).IsWhole := hstage0_3 ((cfg0.slots t 3).cast nbuf0_3)
/-- The staged window of the exponents. -/
abbrev ms0_4 (t : Fin cfg0.N) : Memref sig .tc .vmem S1x256x128 .i8 := win0_4.stage (cfg0.slots t 4)
/-- The staged window of the exponents is whole. -/
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x4096 .bf16 := Memref.whole cc0_scratch0
/-- The second slot. -/
abbrev scM0_1 : Memref sig .tc .vmem S256x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- One staging buffer of each output window, through which its contents are stated. -/
abbrev VO2 : View sig .tc .vmem S1x2880x256 .bf16 := (Memref.whole cc0_stg2_0 : Memref sig .tc .vmem S1x2880x256 .bf16).view
/-- A view of the codes' window. -/
abbrev VO3 : View sig .tc .vmem S1x256x4096 .fp8e4m3 := (Memref.whole cc0_stg3_0 : Memref sig .tc .vmem S1x256x4096 .fp8e4m3).view
/-- A view of the exponents' window. -/
abbrev VO4 : View sig .tc .vmem S1x256x128 .i8 := (Memref.whole cc0_stg4_0 : Memref sig .tc .vmem S1x256x128 .i8).view
/-- Slot a and slot b, as views. -/
abbrev VSa : View sig .tc .vmem S256x4096 .bf16 := scM0_0.view
/-- A view of the second slot. -/
abbrev VSb : View sig .tc .vmem S256x4096 .bf16 := scM0_1.view

end Cert.KernelIdeal.Dx

end
-- ==== Proof.DxRunA.lean ====
/- The dx kernel's body run once, in one of its three cases: the pieces its stores leave are found by the run. -/
module

public import proofs.«01_k».proof.Proof.DxKit

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2400000 in
/-- The first point: only quantises, into slot a. What the stores leave, as pieces (last first), with the proof that the body runs to a continuation holding them. -/
noncomputable def runA (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : condA i) (hc1 : ¬condB i) (hc2 : ¬condC i)
    (x0 : Vec F S1x256x4096 .bf16) (x1 : Vec F S2880x4096 .bf16) (x2 : Vec F S1x2880x256 .bf16) :
    Σ' (L3 : List (View.Piece (Elt F) S1x256x4096 .fp8e4m3)), Σ' (L4 : List (View.Piece (Elt F) S1x256x128 .i8)), { LS : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS) ∗ (∃ d, owns (c : Thread nD τ) arg7 fullShare d)) -∗ K ⟨⟩))
          ⊢ wp frame (wpE (defs₀ (F := F)) Variants.none c none) E (cc0_dx_call i arg1 harg1 arg2 harg2 arg3 harg3 arg4 harg4 arg5 harg5 arg6 harg6 arg7 harg7) K } := by
  refine ⟨?_, ?_, ?_, fun E K => ?run⟩
  case run =>
    simp only [cc0_dx_call_eq_skeleton]; unfold cc0_dx_call_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _, _; isplitr; swap; · iexact HS1
    ipureintro; rfl

end Cert.KernelIdeal.Dx

end
-- ==== Proof.DxRunB.lean ====
/- The dx kernel's body run once, in one of its three cases: the pieces its stores leave are found by the run. -/
module

public import proofs.«01_k».proof.Proof.DxKit

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2400000 in
/-- An odd point: multiplies slot a, quantises into slot b. What the stores leave, as pieces (last first), with the proof that the body runs to a continuation holding them. -/
noncomputable def runB (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : ¬condA i) (hc1 : condB i) (hc2 : ¬condC i)
    (x0 : Vec F S1x256x4096 .bf16) (x1 : Vec F S2880x4096 .bf16) (xs : Vec F S256x4096 .bf16) :
    Σ' (L2 : List (View.Piece (Elt F) S1x2880x256 .bf16)), Σ' (L3 : List (View.Piece (Elt F) S1x256x4096 .fp8e4m3)), Σ' (L4 : List (View.Piece (Elt F) S1x256x128 .i8)), { LS : List (View.Piece (Elt F) S256x4096 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d) ∗ (∃ f, arg7.view.loc (c : Thread nD τ) ↦[arg7.view.set]{fullShare} arg7.view.writes (Elt F) f LS)) -∗ K ⟨⟩))
          ⊢ wp frame (wpE (defs₀ (F := F)) Variants.none c none) E (cc0_dx_call i arg1 harg1 arg2 harg2 arg3 harg3 arg4 harg4 arg5 harg5 arg6 harg6 arg7 harg7) K } := by
  refine ⟨?_, ?_, ?_, ?_, fun E K => ?run⟩
  case run =>
    simp only [cc0_dx_call_eq_skeleton]; unfold cc0_dx_call_skel
    rw [k0_part82_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg6.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _, _; isplitr; swap; · iexact HS0
      ipureintro; rfl
    iexists _; iexact HS1

end Cert.KernelIdeal.Dx

end
-- ==== Proof.DxRunC.lean ====
/- The dx kernel's body run once, in one of its three cases: the pieces its stores leave are found by the run. -/
module

public import proofs.«01_k».proof.Proof.DxKit

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2400000 in
/-- An even point past the first: multiplies slot b, quantises into slot a. What the stores leave, as pieces (last first), with the proof that the body runs to a continuation holding them. -/
noncomputable def runC (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : ¬condA i) (hc1 : ¬condB i) (hc2 : condC i)
    (x0 : Vec F S1x256x4096 .bf16) (x1 : Vec F S2880x4096 .bf16) (xs : Vec F S256x4096 .bf16) :
    Σ' (L2 : List (View.Piece (Elt F) S1x2880x256 .bf16)), Σ' (L3 : List (View.Piece (Elt F) S1x256x4096 .fp8e4m3)), Σ' (L4 : List (View.Piece (Elt F) S1x256x128 .i8)), { LS : List (View.Piece (Elt F) S256x4096 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS) ∗ (∃ d, owns (c : Thread nD τ) arg7 fullShare d)) -∗ K ⟨⟩))
          ⊢ wp frame (wpE (defs₀ (F := F)) Variants.none c none) E (cc0_dx_call i arg1 harg1 arg2 harg2 arg3 harg3 arg4 harg4 arg5 harg5 arg6 harg6 arg7 harg7) K } := by
  refine ⟨?_, ?_, ?_, ?_, fun E K => ?run⟩
  case run =>
    simp only [cc0_dx_call_eq_skeleton]; unfold cc0_dx_call_skel
    rw [k0_part124_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%fs1, %hfs1, HS1⟩, Hk⟩
    obtain rfl := harg1.eq_unread hf0; obtain rfl := harg2.eq_unread hf1; obtain rfl := harg7.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _, _; isplitr; swap; · iexact HS1
    ipureintro; rfl

end Cert.KernelIdeal.Dx

end
-- ==== Proof.DxOut.lean ====
/- What the runs of the body leave in the windows and the slots, over the reals. -/
module

public import proofs.«01_k».proof.Proof.DxPiece
public import proofs.«01_k».proof.Proof.DxRunA
public import proofs.«01_k».proof.Proof.DxRunB
public import proofs.«01_k».proof.Proof.DxRunC

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic

/-- A slot loaded whole. -/
theorem slot_load {M : Memref sig .tc .vmem S256x4096 .bf16} (hM : M.IsWhole) (xs : Vec Ideal S256x4096 .bf16)
    (inb : ∀ a, (![0, 0] : Fin 2 → ℕ) a + S256x4096.size a ≤ S256x4096.size a) :
    View.readAt (Elt Ideal) M.view (Rect.unit (s := S256x4096) ![0, 0] S256x4096.size inb).toLoadRect (hM.unread xs) = xs := by
  funext y
  refine (hM.readAt_unread xs _ _).trans (congrArg xs (funext fun k => Fin.ext ?_))
  refine (ValueKit.rect_emb_unit_val (s := S256x4096) ![0, 0] S256x4096.size inb y k).trans ?_
  fin_cases k <;> exact Nat.zero_add _

section

variable (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : condA i) (hc1 : ¬condB i) (hc2 : ¬condC i)
    (x0 : Vec Ideal S1x256x4096 .bf16) (x1 : Vec Ideal S2880x4096 .bf16) (x2 : Vec Ideal S1x2880x256 .bf16)

/-- The first step leaves the chunk's codes. -/
theorem outA_3 {κ : Kind} {sp : Space} (v : View sig κ sp S1x256x4096 .fp8e4m3) (f : v.ty.Contents (Elt Ideal)) :
    v.read (Elt Ideal) (v.writes (Elt Ideal) f (runA (F := Ideal) c i arg1 harg1 arg2 harg2 arg3 harg3 arg4 harg4 arg5 harg5 arg6 harg6 arg7 harg7 hc0 hc1 hc2 x0 x1 x2).1) = Codes x0 := by
  have hc := View.cover_of_tiledL (runA (F := Ideal) c i arg1 harg1 arg2 harg2 arg3 harg3 arg4 harg4 arg5 harg5 arg6 harg6 arg7 harg7 hc0 hc1 hc2 x0 x1 x2).1 S1x128x512.size (by sl_kernel_rfl)
  refine funext fun y => View.read_writes_apply_of_pieces v f _ _ ?_ y (hc y)
  clear hc
  unfold runA
  dsimp only
  sl_unfold_words
  iterate 16 refine List.forall_mem_cons.mpr ⟨fun y => Eq.trans ?_ (codes_piece harg1 x0 _ _ (by decide) (by decide) (by decide) y), ?_⟩; · rfl
  exact fun p hp => absurd hp List.not_mem_nil

/-- The first step leaves the chunk's exponents. -/
theorem outA_4 {κ : Kind} {sp : Space} (v : View sig κ sp S1x256x128 .i8) (f : v.ty.Contents (Elt Ideal)) :
    v.read (Elt Ideal) (v.writes (Elt Ideal) f (runA (F := Ideal) c i arg1 harg1 arg2 harg2 arg3 harg3 arg4 harg4 arg5 harg5 arg6 harg6 arg7 harg7 hc0 hc1 hc2 x0 x1 x2).2.1) = Bytes x0 := by
  have hc := View.cover_of_tiledL (runA (F := Ideal) c i arg1 harg1 arg2 harg2 arg3 harg3 arg4 harg4 arg5 harg5 arg6 harg6 arg7 harg7 hc0 hc1 hc2 x0 x1 x2).2.1 S1x128x128.size (by sl_kernel_rfl)
  refine funext fun y => View.read_writes_apply_of_pieces v f _ _ ?_ y (hc y)
  clear hc
  unfold runA
  dsimp only
  sl_unfold_words
  iterate 2 refine List.forall_mem_cons.mpr ⟨fun y => Eq.trans ?_ (bytes_piece harg1 x0 _ (by decide) y), ?_⟩; · rfl
  exact fun p hp => absurd hp List.not_mem_nil

/-- The first step leaves the chunk's values in slot a. -/
theorem outA_S {κ : Kind} {sp : Space} (v : View sig κ sp S256x4096 .bf16) (f : v.ty.Contents (Elt Ideal)) :
    v.read (Elt Ideal) (v.writes (Elt Ideal) f (runA (F := Ideal) c i arg1 harg1 arg2 harg2 arg3 harg3 arg4 harg4 arg5 harg5 arg6 harg6 arg7 harg7 hc0 hc1 hc2 x0 x1 x2).2.2.1) = Wide x0 := by
  have hc := View.cover_of_tiledL (runA (F := Ideal) c i arg1 harg1 arg2 harg2 arg3 harg3 arg4 harg4 arg5 harg5 arg6 harg6 arg7 harg7 hc0 hc1 hc2 x0 x1 x2).2.2.1 S128x512.size (by sl_kernel_rfl)
  refine funext fun y => View.read_writes_apply_of_pieces v f _ _ ?_ y (hc y)
  clear hc
  unfold runA
  dsimp only
  sl_unfold_words
  iterate 16 refine List.forall_mem_cons.mpr ⟨fun y => Eq.trans ?_ (wide_piece harg1 x0 _ _ (by decide) (by decide) (by decide) y), ?_⟩; · rfl
  exact fun p hp => absurd hp List.not_mem_nil

end

section

variable (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : ¬condA i) (hc1 : condB i) (hc2 : ¬condC i)
    (x0 : Vec Ideal S1x256x4096 .bf16) (x1 : Vec Ideal S2880x4096 .bf16) (xs : Vec Ideal S256x4096 .bf16)

/-- An odd step leaves the product of slot a. -/
theorem outB_2 {κ : Kind} {sp : Space} (v : View sig κ sp S1x2880x256 .bf16) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).1) = Prod x1 xs := by
  have hc := View.cover_of_tiledL (runB (F := Ideal) c i arg1 harg1 arg2 harg2 arg3 harg3 arg4 harg4 arg5 harg5 arg6 harg6 arg7 harg7 hc0 hc1 hc2 x0 x1 xs).1 S1x480x256.size (by sl_kernel_rfl)
  refine funext fun y => View.read_writes_apply_of_pieces v f _ _ ?_ y (hc y)
  clear hc
  unfold runB
  dsimp only
  sl_unfold_words
  iterate 6 refine List.forall_mem_cons.mpr ⟨fun y => Eq.trans ?_ (dot_piece harg2 x1 _ _ (slot_load harg6 xs (by decide)) _ (by decide) y), ?_⟩; · rfl
  exact fun p hp => absurd hp List.not_mem_nil

/-- An odd step leaves the chunk's codes. -/
theorem outB_3 {κ : Kind} {sp : Space} (v : View sig κ sp S1x256x4096 .fp8e4m3) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).2.1) = Codes x0 := by
  have hc := View.cover_of_tiledL (runB (F := Ideal) c i arg1 harg1 arg2 harg2 arg3 harg3 arg4 harg4 arg5 harg5 arg6 harg6 arg7 harg7 hc0 hc1 hc2 x0 x1 xs).2.1 S1x128x512.size (by sl_kernel_rfl)
  refine funext fun y => View.read_writes_apply_of_pieces v f _ _ ?_ y (hc y)
  clear hc
  unfold runB
  dsimp only
  sl_unfold_words
  iterate 16 refine List.forall_mem_cons.mpr ⟨fun y => Eq.trans ?_ (codes_piece harg1 x0 _ _ (by decide) (by decide) (by decide) y), ?_⟩; · rfl
  exact fun p hp => absurd hp List.not_mem_nil

/-- An odd step leaves the chunk's exponents. -/
theorem outB_4 {κ : Kind} {sp : Space} (v : View sig κ sp S1x256x128 .i8) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).2.2.1) = Bytes x0 := by
  have hc := View.cover_of_tiledL (runB (F := Ideal) c i arg1 harg1 arg2 harg2 arg3 harg3 arg4 harg4 arg5 harg5 arg6 harg6 arg7 harg7 hc0 hc1 hc2 x0 x1 xs).2.2.1 S1x128x128.size (by sl_kernel_rfl)
  refine funext fun y => View.read_writes_apply_of_pieces v f _ _ ?_ y (hc y)
  clear hc
  unfold runB
  dsimp only
  sl_unfold_words
  iterate 2 refine List.forall_mem_cons.mpr ⟨fun y => Eq.trans ?_ (bytes_piece harg1 x0 _ (by decide) y), ?_⟩; · rfl
  exact fun p hp => absurd hp List.not_mem_nil

/-- An odd step leaves the chunk's values in slot b. -/
theorem outB_S {κ : Kind} {sp : Space} (v : View sig κ sp S256x4096 .bf16) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).2.2.2.1) = Wide x0 := by
  have hc := View.cover_of_tiledL (runB (F := Ideal) c i arg1 harg1 arg2 harg2 arg3 harg3 arg4 harg4 arg5 harg5 arg6 harg6 arg7 harg7 hc0 hc1 hc2 x0 x1 xs).2.2.2.1 S128x512.size (by sl_kernel_rfl)
  refine funext fun y => View.read_writes_apply_of_pieces v f _ _ ?_ y (hc y)
  clear hc
  unfold runB
  dsimp only
  sl_unfold_words
  iterate 16 refine List.forall_mem_cons.mpr ⟨fun y => Eq.trans ?_ (wide_piece harg1 x0 _ _ (by decide) (by decide) (by decide) y), ?_⟩; · rfl
  exact fun p hp => absurd hp List.not_mem_nil

end

section

variable (c : Dev nD) (i : grid0.Coords) (arg1 : Memref sig .tc .vmem S1x256x4096 .bf16) (harg1 : arg1.IsWhole) (arg2 : Memref sig .tc .vmem S2880x4096 .bf16) (harg2 : arg2.IsWhole) (arg3 : Memref sig .tc .vmem S1x2880x256 .bf16) (harg3 : arg3.IsWhole) (arg4 : Memref sig .tc .vmem S1x256x4096 .fp8e4m3) (harg4 : arg4.IsWhole) (arg5 : Memref sig .tc .vmem S1x256x128 .i8) (harg5 : arg5.IsWhole) (arg6 : Memref sig .tc .vmem S256x4096 .bf16) (harg6 : arg6.IsWhole) (arg7 : Memref sig .tc .vmem S256x4096 .bf16) (harg7 : arg7.IsWhole) (hc0 : ¬condA i) (hc1 : ¬condB i) (hc2 : condC i)
    (x0 : Vec Ideal S1x256x4096 .bf16) (x1 : Vec Ideal S2880x4096 .bf16) (xs : Vec Ideal S256x4096 .bf16)

/-- An even step leaves the product of slot b. -/
theorem outC_2 {κ : Kind} {sp : Space} (v : View sig κ sp S1x2880x256 .bf16) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).1) = Prod x1 xs := by
  have hc := View.cover_of_tiledL (runC (F := Ideal) c i arg1 harg1 arg2 harg2 arg3 harg3 arg4 harg4 arg5 harg5 arg6 harg6 arg7 harg7 hc0 hc1 hc2 x0 x1 xs).1 S1x480x256.size (by sl_kernel_rfl)
  refine funext fun y => View.read_writes_apply_of_pieces v f _ _ ?_ y (hc y)
  clear hc
  unfold runC
  dsimp only
  sl_unfold_words
  iterate 6 refine List.forall_mem_cons.mpr ⟨fun y => Eq.trans ?_ (dot_piece harg2 x1 _ _ (slot_load harg7 xs (by decide)) _ (by decide) y), ?_⟩; · rfl
  exact fun p hp => absurd hp List.not_mem_nil

/-- An even step leaves the chunk's codes. -/
theorem outC_3 {κ : Kind} {sp : Space} (v : View sig κ sp S1x256x4096 .fp8e4m3) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).2.1) = Codes x0 := by
  have hc := View.cover_of_tiledL (runC (F := Ideal) c i arg1 harg1 arg2 harg2 arg3 harg3 arg4 harg4 arg5 harg5 arg6 harg6 arg7 harg7 hc0 hc1 hc2 x0 x1 xs).2.1 S1x128x512.size (by sl_kernel_rfl)
  refine funext fun y => View.read_writes_apply_of_pieces v f _ _ ?_ y (hc y)
  clear hc
  unfold runC
  dsimp only
  sl_unfold_words
  iterate 16 refine List.forall_mem_cons.mpr ⟨fun y => Eq.trans ?_ (codes_piece harg1 x0 _ _ (by decide) (by decide) (by decide) y), ?_⟩; · rfl
  exact fun p hp => absurd hp List.not_mem_nil

/-- An even step leaves the chunk's exponents. -/
theorem outC_4 {κ : Kind} {sp : Space} (v : View sig κ sp S1x256x128 .i8) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).2.2.1) = Bytes x0 := by
  have hc := View.cover_of_tiledL (runC (F := Ideal) c i arg1 harg1 arg2 harg2 arg3 harg3 arg4 harg4 arg5 harg5 arg6 harg6 arg7 harg7 hc0 hc1 hc2 x0 x1 xs).2.2.1 S1x128x128.size (by sl_kernel_rfl)
  refine funext fun y => View.read_writes_apply_of_pieces v f _ _ ?_ y (hc y)
  clear hc
  unfold runC
  dsimp only
  sl_unfold_words
  iterate 2 refine List.forall_mem_cons.mpr ⟨fun y => Eq.trans ?_ (bytes_piece harg1 x0 _ (by decide) y), ?_⟩; · rfl
  exact fun p hp => absurd hp List.not_mem_nil

/-- An even step leaves the chunk's values in slot a. -/
theorem outC_S {κ : Kind} {sp : Space} (v : View sig κ sp S256x4096 .bf16) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).2.2.2.1) = Wide x0 := by
  have hc := View.cover_of_tiledL (runC (F := Ideal) c i arg1 harg1 arg2 harg2 arg3 harg3 arg4 harg4 arg5 harg5 arg6 harg6 arg7 harg7 hc0 hc1 hc2 x0 x1 xs).2.2.2.1 S128x512.size (by sl_kernel_rfl)
  refine funext fun y => View.read_writes_apply_of_pieces v f _ _ ?_ y (hc y)
  clear hc
  unfold runC
  dsimp only
  sl_unfold_words
  iterate 16 refine List.forall_mem_cons.mpr ⟨fun y => Eq.trans ?_ (wide_piece harg1 x0 _ _ (by decide) (by decide) (by decide) y), ?_⟩; · rfl
  exact fun p hp => absurd hp List.not_mem_nil

end

end Cert.KernelIdeal.Dx

end
-- ==== Proof.DxFrame.lean ====
/- The frame of the kernel over the reals, with what every window and slot holds after each step named. -/
module

public import proofs.«01_k».proof.Proof.DxOut
public import proofs.«01_k».proof.Proof.DxKit
public import Idealize.ShloMosaic.Lib.Claim

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The step before `t` (the first one's is itself). -/
def prev (t : Fin cfg0.N) : Fin cfg0.N := ⟨t.val - 1, lt_of_le_of_lt (Nat.sub_le _ _) t.isLt⟩

/-- Before the first step both slots hold anything; after step `n` the slot it filled holds its chunk's values. -/
def PhiS (c : Dev nD) : (n : ℕ) → n ≤ cfg0.N → sProp 𝕄
  | 0, _ => Pipeline.ΦA spec0 c
  | n + 1, hn => if n % 2 = 0 then
      iprop(iprop(owns (c : Thread nD τ) scM0_0 fullShare (Wide (iblk m c 0 ⟨n, hn⟩)) ∗ (∃ d, owns (c : Thread nD τ) scM0_1 fullShare d)) ∗ (∃ r, prngReg c r))
    else
      iprop(iprop((∃ d, owns (c : Thread nD τ) scM0_0 fullShare d) ∗ owns (c : Thread nD τ) scM0_1 fullShare (Wide (iblk m c 0 ⟨n, hn⟩))) ∗ (∃ r, prngReg c r))

/-- Before the first step the slots hold anything. -/
theorem PhiS_zero (c : Dev nD) (n : ℕ) (h : n ≤ cfg0.N) (hz : n = 0) : PhiS m c n h = Pipeline.ΦA spec0 c := by
  subst hz; rfl

/-- After an even step slot a holds that step's chunk. -/
theorem PhiS_even (c : Dev nD) (n : ℕ) (hn : n < cfg0.N) (he : n % 2 = 0) :
    PhiS m c (n + 1) hn = iprop(iprop(owns (c : Thread nD τ) scM0_0 fullShare (Wide (iblk m c 0 ⟨n, hn⟩)) ∗ (∃ d, owns (c : Thread nD τ) scM0_1 fullShare d)) ∗ (∃ r, prngReg c r)) := by
  exact if_pos he

/-- After an odd step slot b holds that step's chunk. -/
theorem PhiS_odd (c : Dev nD) (n : ℕ) (hn : n < cfg0.N) (he : ¬n % 2 = 0) :
    PhiS m c (n + 1) hn = iprop(iprop((∃ d, owns (c : Thread nD τ) scM0_0 fullShare d) ∗ owns (c : Thread nD τ) scM0_1 fullShare (Wide (iblk m c 0 ⟨n, hn⟩))) ∗ (∃ r, prngReg c r)) := by
  exact if_neg he

/-- Before an odd step slot a holds the chunk of the step before. -/
theorem PhiS_before_odd (c : Dev nD) (t : Fin cfg0.N) (ho : t.val % 2 = 1) :
    PhiS m c t.val (Nat.le_of_lt t.isLt) = iprop(iprop(owns (c : Thread nD τ) scM0_0 fullShare (Wide (iblk m c 0 (prev t))) ∗ (∃ d, owns (c : Thread nD τ) scM0_1 fullShare d)) ∗ (∃ r, prngReg c r)) := by
  obtain ⟨n, hn⟩ := t
  cases n with
  | zero => simp at ho
  | succ n => exact PhiS_even m c n _ (by dsimp only at ho; omega)

/-- Before an even step past the first slot b holds the chunk of the step before. -/
theorem PhiS_before_even (c : Dev nD) (t : Fin cfg0.N) (he : t.val % 2 = 0) (hz : t.val ≠ 0) :
    PhiS m c t.val (Nat.le_of_lt t.isLt) = iprop(iprop((∃ d, owns (c : Thread nD τ) scM0_0 fullShare d) ∗ owns (c : Thread nD τ) scM0_1 fullShare (Wide (iblk m c 0 (prev t)))) ∗ (∃ r, prngReg c r)) := by
  obtain ⟨n, hn⟩ := t
  cases n with
  | zero => exact absurd rfl hz
  | succ n => exact PhiS_odd m c n _ (by dsimp only at he; omega)

/-- The proof data: the product's window holds the product with the chunk of the step before, the codes' and the exponents' windows
    those of the step's chunk. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Prod (iblk m c 1 t) (Wide (iblk m c 0 (prev t)))
    | ⟨3, _⟩ => Codes (iblk m c 0 t)
    | ⟨4, _⟩ => Bytes (iblk m c 0 t)
  Φ t := PhiS m c t.val (Nat.le_of_lt_succ t.isLt)
  q _ := fullShare
  owed _ := 0

/-- A window's array is the one of the memory on entry. -/
theorem A_eq (c : Dev nD) (w : Fin cfg0.W) : (dats m 0 c).A w = V m c (Pipeline.arrRef spec0 w) := by
  dsimp only [dats]

/-- The invariant before a step, at the step's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The first input's window is left as it was loaded. -/
theorem after0_0 (c : Dev nD) (t : Fin cfg0.N) : (dats m 0 c).after 0 t = iblk m c 0 t := by dsimp only [dats]
/-- The second input's window is left as it was loaded. -/
theorem after0_1 (c : Dev nD) (t : Fin cfg0.N) : (dats m 0 c).after 1 t = iblk m c 1 t := by dsimp only [dats]
/-- The product's window after a step. -/
theorem after0_2 (c : Dev nD) (t : Fin cfg0.N) : (dats m 0 c).after 2 t = Prod (iblk m c 1 t) (Wide (iblk m c 0 (prev t))) := by dsimp only [dats]
/-- The codes' window after a step. -/
theorem after0_3 (c : Dev nD) (t : Fin cfg0.N) : (dats m 0 c).after 3 t = Codes (iblk m c 0 t) := by dsimp only [dats]
/-- The exponents' window after a step. -/
theorem after0_4 (c : Dev nD) (t : Fin cfg0.N) : (dats m 0 c).after 4 t = Bytes (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second input's window holds its block before a step. -/
theorem before0_1 (c : Dev nD) (t : Fin cfg0.N) (d) : (dats m 0 c).before 1 t d = iblk m c 1 t :=
  before0_1_of m (dats m 0 c) (A_eq m c 1) (after0_1 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any step. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
      unfold Dat.leavesExact; rw [liveAt_0 t], after0_0]
  rw [show (dats m 0 c).leavesExact 1 t = owns (c : Thread nD τ) (ms0_1 t) fullShare ((dats m 0 c).after 1 t) from by
      unfold Dat.leavesExact; rw [liveAt_1 t], after0_1]
  rw [show (dats m 0 c).leavesExact 3 t = owns (c : Thread nD τ) (ms0_3 t) fullShare ((dats m 0 c).after 3 t) from by
      unfold Dat.leavesExact; rw [liveAt_3 t], after0_3]
  rw [show (dats m 0 c).leavesExact 4 t = owns (c : Thread nD τ) (ms0_4 t) fullShare ((dats m 0 c).after 4 t) from by
      unfold Dat.leavesExact; rw [liveAt_4 t], after0_4]
  by_cases h0 : t.val = 0
  · rw [Dat.leavesExact_idle _ 2 t (idleAt_2 t h0) (noflush_2 t h0)]
    rw [PhiS_castSucc m c t, PhiS_zero m c _ _ h0, PhiA0_eq]
    rw [PhiS_even m c t.val t.isLt (by omega)]
    iintro ⟨⟨⟨HS0, HS1⟩, Hg⟩, Ho, ⟨%d0, H0⟩, ⟨%d1, H1⟩, ⟨%d2, H2⟩, ⟨%d3, H3⟩, ⟨%d4, H4⟩⟩
    iapply ((runA (F := Ideal) c (grid0.coords t) _ _ _ _ _ _ _ _ _ _ _ _ _ _ ((hcondA t).mpr h0) (fun h => by have := (hcondB t).mp h; omega) (fun h => ((hcondC t).mp h).2 h0) (iblk m c 0 t) (iblk m c 1 t) _).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, HS1⟩
    isplitl [HS0 HS1 Hg]
    · isplitl [HS0 HS1]
      · isplitl [HS0]
        · unfold owns; iexists _; isplitr
          swap; · iexact HS0
          ipureintro; exact outA_S ..
        iexact HS1
      iexact Hg
    isplitl [Ho]; · iexact Ho
    isplitl [H0]; · iexact H0
    isplitl [H1]; · iexact H1
    isplitl [H2]; · iexists _; iexact H2
    isplitl [H3]
    · unfold owns; iexists _; isplitr
      swap; · iexact H3
      ipureintro; exact outA_3 ..
    unfold owns; iexists _; isplitr
    swap; · iexact H4
    ipureintro; exact outA_4 ..
  · rw [show (dats m 0 c).leavesExact 2 t = owns (c : Thread nD τ) (ms0_2 t) fullShare ((dats m 0 c).after 2 t) from by
      unfold Dat.leavesExact; rw [liveAt_2 t h0], after0_2]
    by_cases h1 : t.val % 2 = 1
    · rw [PhiS_castSucc m c t, PhiS_before_odd m c t h1]
      rw [PhiS_odd m c t.val t.isLt (by omega)]
      iintro ⟨⟨⟨HS0, HS1⟩, Hg⟩, Ho, ⟨%d0, H0⟩, ⟨%d1, H1⟩, ⟨%d2, H2⟩, ⟨%d3, H3⟩, ⟨%d4, H4⟩⟩
      iapply ((runB (F := Ideal) c (grid0.coords t) _ _ _ _ _ _ _ _ _ _ _ _ _ _ (fun h => h0 ((hcondA t).mp h)) ((hcondB t).mpr h1) (fun h => by have := ((hcondC t).mp h).1; omega) (iblk m c 0 t) (iblk m c 1 t) (Wide (iblk m c 0 (prev t)))).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, HS0, ⟨%es1, HS1⟩⟩
      isplitl [HS0 HS1 Hg]
      · isplitl [HS0 HS1]
        · isplitl [HS0]
          · iexact HS0
          unfold owns; iexists _; isplitr
          swap; · iexact HS1
          ipureintro; exact outB_S ..
        iexact Hg
      isplitl [Ho]; · iexact Ho
      isplitl [H0]; · iexact H0
      isplitl [H1]; · iexact H1
      isplitl [H2]
      · unfold owns; iexists _; isplitr
        swap; · iexact H2
        ipureintro; exact outB_2 ..
      isplitl [H3]
      · unfold owns; iexists _; isplitr
        swap; · iexact H3
        ipureintro; exact outB_3 ..
      unfold owns; iexists _; isplitr
      swap; · iexact H4
      ipureintro; exact outB_4 ..
    · rw [PhiS_castSucc m c t, PhiS_before_even m c t (by omega) h0]
      rw [PhiS_even m c t.val t.isLt (by omega)]
      iintro ⟨⟨⟨HS0, HS1⟩, Hg⟩, Ho, ⟨%d0, H0⟩, ⟨%d1, H1⟩, ⟨%d2, H2⟩, ⟨%d3, H3⟩, ⟨%d4, H4⟩⟩
      iapply ((runC (F := Ideal) c (grid0.coords t) _ _ _ _ _ _ _ _ _ _ _ _ _ _ (fun h => h0 ((hcondA t).mp h)) (fun h => h1 ((hcondB t).mp h)) ((hcondC t).mpr ⟨by omega, h0⟩) (iblk m c 0 t) (iblk m c 1 t) (Wide (iblk m c 0 (prev t)))).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, HS1⟩
      isplitl [HS0 HS1 Hg]
      · isplitl [HS0 HS1]
        · isplitl [HS0]
          · unfold owns; iexists _; isplitr
            swap; · iexact HS0
            ipureintro; exact outC_S ..
          iexact HS1
        iexact Hg
      isplitl [Ho]; · iexact Ho
      isplitl [H0]; · iexact H0
      isplitl [H1]; · iexact H1
      isplitl [H2]
      · unfold owns; iexists _; isplitr
        swap; · iexact H2
        ipureintro; exact outC_2 ..
      isplitl [H3]
      · unfold owns; iexists _; isplitr
        swap; · iexact H3
        ipureintro; exact outC_3 ..
      unfold owns; iexists _; isplitr
      swap; · iexact H4
      ipureintro; exact outC_4 ..

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the slots' contents are forgotten. -/
theorem hout (c : Dev nD) : (dats m 0 c).Φ (Fin.last cfg0.N) ⊢ Pipeline.ΦA spec0 c := by
  have hN : cfg0.N = 36 + 1 := N_0
  rw [show (dats m 0 c).Φ (Fin.last cfg0.N) = PhiS m c (36 + 1) (by rw [hN]) from by
    dsimp only [dats]; congr 1, PhiS_even m c 36 (by rw [hN]; omega) rfl, PhiA0_eq]
  iintro ⟨⟨HS0, HS1⟩, Hg⟩
  isplitl [HS0 HS1]
  · isplitl [HS0]
    · iexists _; iexact HS0
    iexact HS1
  iexact Hg

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Dx

end
-- ==== Proof.DxValue.lean ====
/- What the kernel's result arrays hold after the run, over the reals. -/
module

public import proofs.«01_k».proof.Proof.DxFrame

@[expose] public section

set_option maxRecDepth 16384

noncomputable section

namespace Cert.KernelIdeal.Dx

open Cert.KernelIdeal Cert.KernelIdeal.Gen
open Idealize.ShloMosaic Idealize.ShloMosaic.TcCoe Idealize.ShloMosaic.Tactic
open Idealize.ShloMosaic.Pipeline (Dat Cfg Window)
open Cert.Quant

variable (m : (ℓ : Loc nD τ sig) → Buf (Elt Ideal) ℓ) (ρ : Dev nD → PrngReg)

/-- A row of the gradient. -/
def row (v : Vec Ideal S6x1536x4096 .bf16) (b : Fin 6) (s : Fin 1536) : Fin 4096 → EReal := fun n => v (ix3 b s n)

/-- The product, the codes and the exponents of the whole gradient. -/
def G2 (v : Vec Ideal S6x1536x4096 .bf16) (w : Vec Ideal S2880x4096 .bf16) : Vec Ideal S6x2880x1536 .bf16 := fun i =>
  ∑ n : Fin 4096, w (ix2 (i 1 : Fin 2880) n) * rowWide (by decide) (row v (i 0) (i 2)) n
/-- The codes of the whole array. -/
def G3 (v : Vec Ideal S6x1536x4096 .bf16) : Vec Ideal S6x1536x4096 .fp8e4m3 := fun i => rowCode (by decide) (row v (i 0) (i 1)) (i 2)
/-- The exponents of the whole array. -/
def G4 (v : Vec Ideal S6x1536x4096 .bf16) : Vec Ideal S6x1536x128 .i8 := fun i =>
  rowTrip (row v (i 0) (i 1)) (i 2).val (by have h : (i 2).val < 128 := (i 2).isLt; omega)

/-- The block of the quantised input at each step. -/
theorem e0 : ∀ t : Fin cfg0.N, win0_0.index t = ![min t.val 35 / 6, min t.val 35 % 6, 0] :=
  (by decide +kernel : ∀ t : Fin grid0.N, win0_0.index t = ![min t.val 35 / 6, min t.val 35 % 6, 0])
/-- The weights are one block. -/
theorem e1 : ∀ t : Fin cfg0.N, win0_1.index t = ![0, 0] := (by decide +kernel : ∀ t : Fin grid0.N, win0_1.index t = ![0, 0])
/-- The block of the product at each step. -/
theorem e2 : ∀ t : Fin cfg0.N, win0_2.index t = ![(t.val - 1) / 6, 0, (t.val - 1) % 6] :=
  (by decide +kernel : ∀ t : Fin grid0.N, win0_2.index t = ![(t.val - 1) / 6, 0, (t.val - 1) % 6])
/-- The block of the codes at each step. -/
theorem e3 : ∀ t : Fin cfg0.N, win0_3.index t = ![min t.val 35 / 6, min t.val 35 % 6, 0] :=
  (by decide +kernel : ∀ t : Fin grid0.N, win0_3.index t = ![min t.val 35 / 6, min t.val 35 % 6, 0])
/-- The block of the exponents at each step. -/
theorem e4 : ∀ t : Fin cfg0.N, win0_4.index t = ![min t.val 35 / 6, min t.val 35 % 6, 0] :=
  (by decide +kernel : ∀ t : Fin grid0.N, win0_4.index t = ![min t.val 35 / 6, min t.val 35 % 6, 0])

/-- A row of a step's chunk is a row of the gradient. -/
theorem lane_eq (c : Dev nD) (t : Fin cfg0.N) (r : Fin 256) (b : Fin 6) (s : Fin 1536) (hb : b.val = min t.val 35 / 6) (hs : s.val = min t.val 35 % 6 * 256 + r.val) :
    lane (iblk m c 0 t) r = row (m ((c : Thread nD τ).loc main_arg0)) b s := by
  funext n
  unfold lane row
  blk_simp [iblk]
  refine congrArg (m ((c : Thread nD τ).loc main_arg0)) (funext fun a => Fin.ext ?_)
  fin_cases a
  · blk_simp [e0]; simp; omega
  · blk_simp [e0]; simp; omega
  · blk_simp [e0]; simp

/-- The rows split evenly into blocks. -/
theorem hN : 4096 % 32 = 0 := rfl

/-- The codes' array after the last step. -/
theorem final3 (c : Dev nD) : (dats m 0 c).arrAt 3 cfg0.N = G3 (m ((c : Thread nD τ).loc main_arg0)) := by
  refine (dats m 0 c).arrAt_eq_of_covers 3 _ (by decide +kernel) fun t hf y => ?_
  blk_simp
  rw [after0_3]
  unfold Codes G3
  refine (congrArg (fun f => rowCode hN f (y 2 : Fin 4096)) (lane_eq m c t (y 1 : Fin 256) (((cfg0.win 3).blk t).view.emb y 0) (((cfg0.win 3).blk t).view.emb y 1) ?_ ?_)).trans ?_
  · have h : (y 0).val < 1 := (y 0).isLt
    blk_simp [e3]; try (simp; omega)
  · blk_simp [e3]; try simp
  · refine congrArg (rowCode hN _) (Fin.ext ?_)
    blk_simp [e3]; try simp

/-- The exponents' array after the last step. -/
theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]
  unfold Bytes G4 rowTrip
  have hg : ((((cfg0.win 4).blk t).view.emb y 2 : Fin _) : ℕ) = (y 2).val := by blk_simp [e4]; try simp
  refine congrArg (fun u => BitVec.setWidth 8 (Ideal.fptosi 32 (((byte (amp u)).toInt : ℝ) : EReal))) ?_
  rw [lane_eq m c t (y 1 : Fin 256) (((cfg0.win 4).blk t).view.emb y 0) (((cfg0.win 4).blk t).view.emb y 1) (by
    have h : (y 0).val < 1 := (y 0).isLt
    blk_simp [e4]; try (simp; omega)) (by blk_simp [e4]; try simp)]
  exact blk_congr _ hg.symm _ _

/-- Sums of equal terms are equal. -/
theorem sum_congr' (f g : Fin 4096 → EReal) (h : ∀ n, f n = g n) : ∑ n, f n = ∑ n, g n := Finset.sum_congr rfl fun n _ => h n

/-- The product array after the last step. -/
theorem final2 (c : Dev nD) : (dats m 0 c).arrAt 2 cfg0.N = G2 (m ((c : Thread nD τ).loc main_arg0)) (m ((c : Thread nD τ).loc main_arg1)) := by
  refine (dats m 0 c).arrAt_eq_of_covers 2 _ (by decide +kernel) fun t hf y => ?_
  blk_simp
  rw [after0_2]
  unfold Prod G2 Wide
  have hm : min (prev t).val 35 = t.val - 1 := by
    have h : t.val < 37 := lt_of_lt_of_eq t.isLt (show cfg0.N = 37 from N_0)
    show min (t.val - 1) 35 = t.val - 1
    omega
  refine sum_congr' _ _ fun n => congrArg₂ (· * ·) ?_ ?_
  · blk_simp [iblk]
    refine congrArg (m ((c : Thread nD τ).loc main_arg1)) (funext fun a => Fin.ext ?_)
    fin_cases a
    · blk_simp [e1, e2]; simp; exact congrFun (e2 t) 1
    · blk_simp [e1]; try simp
  · refine congrArg (fun f => rowWide hN f n) (lane_eq m c (prev t) (y 2 : Fin 256) (((cfg0.win 2).blk t).view.emb y 0) (((cfg0.win 2).blk t).view.emb y 2) ?_ ?_)
    · have h : (y 0).val < 1 := (y 0).isLt
      rw [hm]; blk_simp [e2]; try (simp; omega)
    · rw [hm]; blk_simp [e2]; try simp

/-- The run, each result at its function of the arguments, the arguments unchanged. -/
theorem run : θ_run defs (onTc (τ := τ) (main (F := Ideal))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0))
      ∧ r.2.mem ((c : Thread nD τ).loc main_v0_2) = G4 (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Dx

end
-- ==== Proof.DxRef.lean ====
/- The reference's results at an index, over the reals, on finite inputs. -/
module

public import proofs.«01_k».proof.Proof.Quant
public import proofs.«01_k».proof.Proof.Gen.ReferenceIdeal.Skeleton
public import proofs.«01_k».proof.Pre_finite
public import Idealize.ShloMosaic.Lib.ReduceAll

@[expose] public section

set_option maxRecDepth 16384

noncomputable section

namespace Cert.ReferenceIdeal.Dx

open Cert.ReferenceIdeal Cert.ReferenceIdeal.Gen
open Idealize.ShloMosaic Idealize.ShloMosaic.TcCoe Idealize.ShloMosaic.Tactic
open Cert.Quant

/-- A row of the gradient. -/
def row (v : Vec Ideal S6x1536x4096 .bf16) (b : Fin 6) (s : Fin 1536) : Fin 4096 → EReal := fun n => v (ix3 b s n)

/-- The input cut into blocks, at an index. -/
theorem pay3_apply (v : Vec Ideal S6x1536x4096 .bf16) (j : S6x1536x128x32.Idx) :
    k0_pay3 v j = blk (row v (j 0) (j 1)) (j 2).val (by have := (j 2).isLt; simp at this ⊢; omega) (j 3) := by
  pointwise [k0_pay3]
  rfl

/-- A block's maximum, at an index. -/
theorem max_apply (v : FVec Ideal S6x1536x128x32 .f32) (j : S6x1536x128.Idx) :
    multiReduction (F := Ideal) .maximumf [3] S6x1536x128 v 0xFF800000#32 reduces_S6x1536x128x32_S6x1536x128 (.inl rfl) rfl j
      = Finset.fold max (Ideal.ofBits .f32 4286578688#32) (fun x => v (ix4 (j 0) (j 1) (j 2) x)) Finset.univ := by
  pointwise []

/-- The exponent from a block's greatest magnitude over 448, whole arrays at a time. -/
def expV {F : FTy → Type} [FloatOps F] (p : FVec F S6x1536x128 .f32) : FVec F S6x1536x128 .f32 :=
  select (cmpf .olt p (broadcast S6x1536x128 (Scalar.ofBits .f32 0x00800000#32 : F .f32))) (broadcast S6x1536x128 (Scalar.ofBits .f32 0x00000000#32 : F .f32))
    (addf (floor (divf (log p) (log (broadcast S6x1536x128 (Scalar.ofBits .f32 0x40000000#32 : F .f32)))))
      (broadcast S6x1536x128 (Scalar.ofBits .f32 0x3F800000#32 : F .f32)))

/-- The exponents are written by the functions above. -/
theorem pay4_eq {F : FTy → Type} [FloatOps F] (v : Vec F S6x1536x4096 .bf16) :
    k0_pay4 v = expV (mulf (multiReduction (F := F) .maximumf [3] S6x1536x128 (absf (k0_pay3 v)) 0xFF800000#32 reduces_S6x1536x128x32_S6x1536x128 (.inl rfl) rfl)
      (broadcast S6x1536x128 (Scalar.ofBits .f32 0x3B124925#32 : F .f32))) := rfl

/-- The exponent, at an index. -/
theorem expV_apply (p : FVec Ideal S6x1536x128 .f32) (j : S6x1536x128.Idx) : expV p j = rexp (p j) := rfl

/-- The scaled maximum, at an index. -/
theorem mul_apply (p : FVec Ideal S6x1536x128 .f32) (j : S6x1536x128.Idx) :
    mulf p (broadcast S6x1536x128 (Scalar.ofBits .f32 0x3B124925#32 : Ideal .f32)) j = p j * Ideal.ofBits .f32 991054117#32 := rfl

/-- The exponent is that of the block's scaled maximum. -/
theorem pay4_max (v : Vec Ideal S6x1536x4096 .bf16) (j : S6x1536x128.Idx) :
    k0_pay4 v j = rexp (multiReduction (F := Ideal) .maximumf [3] S6x1536x128 (absf (k0_pay3 v)) 0xFF800000#32 reduces_S6x1536x128x32_S6x1536x128 (.inl rfl) rfl j
      * Ideal.ofBits .f32 991054117#32) := by
  rw [pay4_eq, expV_apply, mul_apply]

/-- The exponents are those of the row's blocks. -/
theorem pay4_apply (v : Vec Ideal S6x1536x4096 .bf16) (j : S6x1536x128.Idx) :
    k0_pay4 v j = rexp (amp (blk (row v (j 0) (j 1)) (j 2).val (by have := (j 2).isLt; simp at this ⊢; omega))) := by
  rw [pay4_max, max_apply]
  unfold amp
  rw [bot16, ← bot32]
  refine congrArg (fun f => rexp (Finset.fold max (Ideal.ofBits .f32 4286578688#32) f Finset.univ * Ideal.ofBits .f32 991054117#32)) (funext fun x => ?_)
  rw [show absf (k0_pay3 v) (ix4 (j 0) (j 1) (j 2) x) = max (k0_pay3 v (ix4 (j 0) (j 1) (j 2) x)) (-(k0_pay3 v (ix4 (j 0) (j 1) (j 2) x))) from rfl, pay3_apply]
  rfl

/-- A value per block read at an element of the block. -/
theorem spread_apply {φ : FTy} (u : FVec Ideal S6x1536x128 φ) (j : S6x1536x128x32.Idx) :
    (broadcastTo S6x1536x128x32 (shapeCast S6x1536x128x1 u shapeCasts_S6x1536x128_S6x1536x128x1) broadcasts_S6x1536x128x1_S6x1536x128x32) j
      = u (ix3 (j 0) (j 1) (j 2)) := by
  pointwise []

/-- A value per block, at every element of the block. -/
def spreadV {F : FTy → Type} [FloatOps F] {φ : FTy} (u : FVec F S6x1536x128 φ) : FVec F S6x1536x128x32 φ :=
  broadcastTo S6x1536x128x32 (shapeCast S6x1536x128x1 u shapeCasts_S6x1536x128_S6x1536x128x1) broadcasts_S6x1536x128x1_S6x1536x128x32

/-- A scale spread over its block, at an index. -/
theorem spreadV_apply {φ : FTy} (u : FVec Ideal S6x1536x128 φ) (j : S6x1536x128x32.Idx) : spreadV u j = u (ix3 (j 0) (j 1) (j 2)) :=
  spread_apply u j

/-- Two to the negated exponent. -/
def negV {F : FTy → Type} [FloatOps F] (u : FVec F S6x1536x128 .f32) : FVec F S6x1536x128 .f32 :=
  exp2 (subf (broadcast S6x1536x128 (Scalar.ofBits .f32 0x00000000#32 : F .f32)) u)

/-- The clipped quotient. -/
def clipV {F : FTy → Type} [FloatOps F] (w z : FVec F S6x1536x128x32 .f32) : FVec F S6x1536x128x32 .fp8e4m3 :=
  truncf .fp8e4m3 (minimumf (broadcast S6x1536x128x32 (Scalar.ofBits .f32 0x43E00000#32 : F .f32))
    (maximumf (broadcast S6x1536x128x32 (Scalar.ofBits .f32 0xC3E00000#32 : F .f32)) (mulf w z))) bitsLt_fp8e4m3_f32

/-- The codes are written by the functions above. -/
theorem pay5_eq {F : FTy → Type} [FloatOps F] (v : Vec F S6x1536x4096 .bf16) :
    k0_pay5 v = clipV (k0_pay3 v) (spreadV (negV (k0_pay4 v))) := rfl

/-- The clipped quotient, at an index. -/
theorem clipV_apply (w z : FVec Ideal S6x1536x128x32 .f32) (j : S6x1536x128x32.Idx) : clipV w z j = code (z j) (w j) := rfl

/-- The inverse scale, at an index. -/
theorem negV_apply (u : FVec Ideal S6x1536x128 .f32) (j : S6x1536x128.Idx) : negV u j = Ideal.exp2 (Ideal.ofBits .f32 0#32 - u j) := rfl

/-- The codes before the last reshape. -/
theorem pay5_apply (v : Vec Ideal S6x1536x4096 .bf16) (j : S6x1536x128x32.Idx) :
    k0_pay5 v j = code (Ideal.exp2 (0 - k0_pay4 v (ix3 (j 0) (j 1) (j 2)))) (k0_pay3 v j) := by
  rw [← show Ideal.ofBits .f32 0#32 = (0 : EReal) from ofField_zero, pay5_eq, clipV_apply, spreadV_apply, negV_apply]

/-- The values back at full width, and the product. -/
def wideV {F : FTy → Type} [FloatOps F] (u : FVec F S6x1536x128 .f32) (q : FVec F S6x1536x128x32 .fp8e4m3) : FVec F S6x1536x4096 .bf16 :=
  shapeCast S6x1536x4096 (mulf (extf .bf16 q bitsLt_fp8e4m3_bf16) (spreadV (truncf .bf16 (exp2 u) bitsLt_bf16_f32)) : FVec F S6x1536x128x32 .bf16)
    shapeCasts_S6x1536x128x32_S6x1536x4096

/-- The weights, once for each batch. -/
def stackV {F : FTy → Type} [FloatOps F] (w : Vec F S2880x4096 .bf16) : FVec F S6x2880x4096 .bf16 :=
  broadcastTo S6x2880x4096 (shapeCast S1x2880x4096 (shapeCast S1x2880x4096 w shapeCasts_S2880x4096_S1x2880x4096) shapeCasts_S1x2880x4096_S1x2880x4096) broadcasts_S1x2880x4096_S6x2880x4096

/-- The product of every batch. -/
def dotV {F : FTy → Type} [FloatOps F] (a : FVec F S6x2880x4096 .bf16) (b : FVec F S6x1536x4096 .bf16) : FVec F S6x2880x1536 .bf16 :=
  truncf .bf16 (matmul dot_S6x2880x4096_S6x1536x4096_S6x2880x1536_2_2_1_1_0_0 none a b (constant S6x2880x1536 .f32 0x00000000#32)) bitsLt_bf16_f32

/-- The product is written by the functions above. -/
theorem pay6_eq {F : FTy → Type} [FloatOps F] (v : Vec F S6x1536x4096 .bf16) (w : Vec F S2880x4096 .bf16) :
    k0_pay6 v w = dotV (stackV w) (wideV (k0_pay4 v) (k0_pay5 v)) := rfl

/-- The repeated weights, at an index. -/
theorem stackV_apply (w : Vec Ideal S2880x4096 .bf16) (j : S6x2880x4096.Idx) : stackV w j = w (ix2 (j 1) (j 2)) := by
  pointwise [stackV]

/-- The product, at an index. -/
theorem dotV_apply (a : FVec Ideal S6x2880x4096 .bf16) (b : FVec Ideal S6x1536x4096 .bf16) (j : S6x2880x1536.Idx) :
    dotV a b j = ∑ k : Fin 4096, a (ix3 (j 0) (j 1) k) * b (ix3 (j 0) (j 2) k) := by
  pointwise [dotV]

/-- The values are the codes times the scales. -/
theorem wide_mul (q : FVec Ideal S6x1536x128x32 .fp8e4m3) (z : FVec Ideal S6x1536x128x32 .bf16) (j : S6x1536x128x32.Idx) :
    (mulf (extf .bf16 q bitsLt_fp8e4m3_bf16) z : FVec Ideal S6x1536x128x32 .bf16) j = q j * z j := rfl

/-- The scale, at an index. -/
theorem trunc_exp (u : FVec Ideal S6x1536x128 .f32) (j : S6x1536x128.Idx) :
    (truncf .bf16 (exp2 u) bitsLt_bf16_f32 : FVec Ideal S6x1536x128 .bf16) j = Ideal.exp2 (u j) := rfl

/-- The blocks put back into rows. -/
theorem unblock {α : Type} (q : S6x1536x128x32.Idx → α) (j : S6x1536x4096.Idx) : shapeCast S6x1536x4096 q shapeCasts_S6x1536x128x32_S6x1536x4096 j
      = q (ix4 (j 0) (j 1) ⟨(j 2).val / 32, by have := (j 2).isLt; simp at this ⊢; omega⟩ ⟨(j 2).val % 32, by omega⟩) := by
  pointwise []

/-- The widened values, at an index. -/
theorem wideV_apply (u : FVec Ideal S6x1536x128 .f32) (q : FVec Ideal S6x1536x128x32 .fp8e4m3) (b : Fin 6) (s : Fin 1536) (n : Fin 4096) :
    wideV u q (ix3 b s n) = q (ix4 b s ⟨n.val / 32, by omega⟩ ⟨n.val % 32, by omega⟩) * Ideal.exp2 (u (ix3 b s ⟨n.val / 32, by omega⟩)) := by
  unfold wideV
  refine (unblock _ _).trans ?_
  rw [wide_mul, spreadV_apply]
  exact congrArg (_ * ·) (trunc_exp u _)

/-- The stored exponents, at an index. -/
theorem pay2_apply (u : FVec Ideal S6x1536x128 .f32) (j : S6x1536x128.Idx) : k0_pay2 u j = rbyte (u j) := rfl

section

variable (v : Vec Ideal S6x1536x4096 .bf16) (hv : ∀ j, max (v j) (-(v j)) ≤ Ideal.ofBits .bf16 32639#16)

include hv

/-- The entries of a block are finite where the array's are. -/
theorem blk_fin (b : Fin 6) (s : Fin 1536) (g : ℕ) (hg : g * 32 + 32 ≤ 4096) (k : Fin 32) :
    max (blk (row v b s) g hg k) (-(blk (row v b s) g hg k)) ≤ Ideal.ofBits .bf16 32639#16 := hv _

/-- The codes. -/
theorem codes_apply (j : S6x1536x4096.Idx) : k0_pay1 (k0_pay5 v) j = rowCode (by norm_num) (row v (j 0) (j 1)) (j 2) := by
  have h : k0_pay1 (k0_pay5 v) j = k0_pay5 v (ix4 (j 0) (j 1) ⟨(j 2).val / 32, by have := (j 2).isLt; simp at this ⊢; omega⟩ ⟨(j 2).val % 32, by omega⟩) :=
    unblock (k0_pay5 v) j
  rw [h, pay5_apply, pay4_apply, pay3_apply]
  unfold rowCode
  rw [← (agree_block _ (blk_fin v hv (j 0) (j 1) ((j 2).val / 32) (by have := (j 2).isLt; simp at this ⊢; omega))).1]
  refine congrArg (code _) ?_
  unfold blk
  refine congrArg (row v (j 0) (j 1)) (Fin.ext ?_)
  show (j 2).val / 32 * 32 + (j 2).val % 32 = (j 2).val
  omega

/-- The stored exponents. -/
theorem bytes_apply (j : S6x1536x128.Idx) :
    k0_pay2 (k0_pay4 v) j = rowByte (row v (j 0) (j 1)) (j 2).val (by have := (j 2).isLt; simp at this ⊢; omega) := by
  have h : k0_pay2 (k0_pay4 v) j = rbyte (k0_pay4 v j) := by
    exact pay2_apply _ j
  rw [h, pay4_apply]
  exact (agree_block _ (blk_fin v hv _ _ _ _)).2.2.1

/-- The product. -/
theorem dx_apply (w : Vec Ideal S2880x4096 .bf16) (j : S6x2880x1536.Idx) :
    k0_pay6 v w j = ∑ n : Fin 4096, w (ix2 (j 1) n) * rowWide (by norm_num) (row v (j 0) (j 2)) n := by
  rw [pay6_eq, dotV_apply]
  refine Finset.sum_congr rfl fun n _ => ?_
  rw [stackV_apply]
  refine congrArg (w (ix2 (j 1) n) * ·) ?_
  have hq := codes_apply v hv (ix3 (j 0) (j 2) n)
  rw [show k0_pay1 (k0_pay5 v) (ix3 (j 0) (j 2) n) = k0_pay5 v (ix4 (j 0) (j 2) ⟨n.val / 32, by omega⟩ ⟨n.val % 32, by omega⟩) from
    unblock (k0_pay5 v) _] at hq
  unfold rowWide
  refine (wideV_apply _ _ (j 0) (j 2) n).trans ?_
  rw [pay4_apply]
  refine congrArg₂ (· * ·) hq ?_
  exact (agree_block _ (blk_fin v hv (j 0) (j 2) (n.val / 32) (by omega))).2.1

end

/-- What the finiteness of the inputs says. -/
theorem finite_le [Cert.Pre_finite.Facts] (v : FVec Ideal S6x1536x4096 .bf16) (w : FVec Ideal S2880x4096 .bf16)
    (h : Cert.Pre_finite.fn (F := Ideal) v w = fun _ => 1#1) (j : S6x1536x4096.Idx) : max (v j) (-(v j)) ≤ Ideal.ofBits .bf16 32639#16 := by
  have h' := Host.reduce_andi_eq_one _ _ _ _ ix0 (congrFun h ix0) j (funext fun a => a.elim0)
  have h2 : BitVec.ofBool (decide (max (v j) (-(v j)) ≤ Ideal.ofBits .bf16 32639#16)) = 1#1 := h'
  by_contra hc
  rw [decide_eq_false hc] at h2
  exact absurd h2 (by decide)

end Cert.ReferenceIdeal.Dx

end
-- ==== Proof.YKernelRuns.lean ====
/- What the runs of the y kernel's body are stated over, at any float instance. -/
module

public import proofs.«01_k».proof.Proof.Gen.YKernel.Launch
public import proofs.«01_k».proof.Proof.Gen.YKernel.Skeleton
public import proofs.«01_k».proof.Proof.Gen.YKernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.YKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations take no fresh names. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28, 30, 32, 34 and 36 only — decided over the grid. -/
theorem hcond0_2 : ∀ t : Fin cfg0.N, cond0_2 (grid0.coords t) ↔ (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36) :=
  (by decide +kernel : ∀ t : Fin grid0.N, cond0_2 (grid0.coords t) ↔ (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2880x256 .bf16 := win0_0.stage (cfg0.slots t 0)
/-- The staged window of the first input is whole. -/
abbrev hs0_0 (t : Fin cfg0.N) : (ms0_0 t).IsWhole := hstage0_0 ((cfg0.slots t 0).cast nbuf0_0)
/-- The staged window of the weights. -/
abbrev ms0_1 (t : Fin cfg0.N) : Memref sig .tc .vmem S2880x4096 .bf16 := win0_1.stage (cfg0.slots t 1)
/-- The staged window of the weights is whole. -/
abbrev hs0_1 (t : Fin cfg0.N) : (ms0_1 t).IsWhole := hstage0_1 ((cfg0.slots t 1).cast nbuf0_1)
/-- The staged window of the product. -/
abbrev ms0_2 (t : Fin cfg0.N) : Memref sig .tc .vmem S1x256x4096 .bf16 := win0_2.stage (cfg0.slots t 2)
/-- The staged window of the product is whole. -/
abbrev hs0_2 (t : Fin cfg0.N) : (ms0_2 t).IsWhole := hstage0_2 ((cfg0.slots t 2).cast nbuf0_2)
/-- The staged window of the codes. -/
abbrev ms0_3 (t : Fin cfg0.N) : Memref sig .tc .vmem S1x2880x256 .fp8e4m3 := win0_3.stage (cfg0.slots t 3)
/-- The staged window of the codes is whole. -/
abbrev hs0_3 (t : Fin cfg0.N) : (ms0_3 t).IsWhole := hstage0_3 ((cfg0.slots t 3).cast nbuf0_3)
/-- The staged window of the exponents. -/
abbrev ms0_4 (t : Fin cfg0.N) : Memref sig .tc .vmem S1x90x256 .i8 := win0_4.stage (cfg0.slots t 4)
/-- The staged window of the exponents is whole. -/
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x2880 .bf16 := Memref.whole cc0_scratch0
/-- The second slot. -/
abbrev scM0_1 : Memref sig .tc .vmem S256x2880 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.YKernel.Gen

end
-- ==== Proof.YKernelRunA.lean ====
/- The y kernel's body at the first point, at any float values: the outputs' contents are not named. -/
module

public import proofs.«01_k».proof.Proof.YKernelRuns

@[expose] public section

-- membership in a rectangle of production extents (`View.cover_of_tiled`): the elaborator's structural look
-- recurses once per coordinate of the long axes
set_option maxRecDepth 16384

noncomputable section

namespace Cert.YKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1372000 in
/-- The body's triple IN CASE A (`scf.if` 0 taken, `scf.if` 1 not taken, `scf.if` 2 not taken: points 0): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : cond0_0 i) (hc1 : ¬cond0_1 i) (hc2 : ¬cond0_2 i)
    (x0 : Vec F S1x2880x256 .bf16) (x1 : Vec F S2880x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_y_call i arg1 harg1 arg2 harg2 arg3 harg3 arg4 harg4 arg5 harg5 arg6 harg6 arg7 harg7) K := by
    intro E K
    simp only [cc0_y_call_eq_skeleton]; unfold cc0_y_call_skel
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.YKernel.Gen

end
-- ==== Proof.YKernelRunB.lean ====
/- The y kernel's body at an odd point, at any float values: the outputs' contents are not named. -/
module

public import proofs.«01_k».proof.Proof.YKernelRunA

@[expose] public section

-- membership in a rectangle of production extents (`View.cover_of_tiled`): the elaborator's structural look
-- recurses once per coordinate of the long axes
set_option maxRecDepth 16384

noncomputable section

namespace Cert.YKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1544000 in
/-- The body's triple IN CASE B (`scf.if` 0 not taken, `scf.if` 1 taken, `scf.if` 2 not taken: points 1, 3, … 35: 18 of 37): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : ¬cond0_0 i) (hc1 : cond0_1 i) (hc2 : ¬cond0_2 i)
    (x0 : Vec F S1x2880x256 .bf16) (x1 : Vec F S2880x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_y_call i arg1 harg1 arg2 harg2 arg3 harg3 arg4 harg4 arg5 harg5 arg6 harg6 arg7 harg7) K := by
    intro E K
    simp only [cc0_y_call_eq_skeleton]; unfold cc0_y_call_skel
    rw [k0_part114_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.YKernel.Gen

end
-- ==== Proof.YKernelRunC.lean ====
/- The y kernel's body at an even point after the first, at any float values: the outputs' contents are not named. -/
module

public import proofs.«01_k».proof.Proof.YKernelRunB

@[expose] public section

-- membership in a rectangle of production extents (`View.cover_of_tiled`): the elaborator's structural look
-- recurses once per coordinate of the long axes
set_option maxRecDepth 16384

noncomputable section

namespace Cert.YKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1544000 in
/-- The body's triple IN CASE C (`scf.if` 0 not taken, `scf.if` 1 not taken, `scf.if` 2 taken: points 2, 4, … 36: 18 of 37): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : ¬cond0_0 i) (hc1 : ¬cond0_1 i) (hc2 : cond0_2 i)
    (x0 : Vec F S1x2880x256 .bf16) (x1 : Vec F S2880x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_y_call i arg1 harg1 arg2 harg2 arg3 harg3 arg4 harg4 arg5 harg5 arg6 harg6 arg7 harg7) K := by
    intro E K
    simp only [cc0_y_call_eq_skeleton]; unfold cc0_y_call_skel
    rw [k0_part172_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.YKernel.Gen

end
-- ==== Proof.YKernelFrame.lean ====
/- The frame of the y kernel's program at any float values: the arguments end unchanged and the counters at zero. -/
module

public import proofs.«01_k».proof.Proof.YKernelRunC
public import Idealize.ShloMosaic.Lib.Claim

@[expose] public section

-- membership in a rectangle of production extents (`View.cover_of_tiled`): the elaborator's structural look
-- recurses once per coordinate of the long axes
set_option maxRecDepth 16384

noncomputable section

namespace Cert.YKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The second input's window is left as it was loaded. -/
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second input's window holds its block before a step. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 1200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 37 := lt_of_lt_of_eq t.isLt (show cfg0.N = 37 from N_0)
  by_cases h0 : t.val % 37 = 0
  · by_cases h1 : t.val % 2 = 1
    · exfalso; omega
    · by_cases h2 : (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk m c 0 t) (iblk m c 1 t)) Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
  · by_cases h1 : t.val % 2 = 1
    · by_cases h2 : (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t)) Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
    · by_cases h2 : (t.val % 37 = 2 ∨ t.val % 37 = 4 ∨ t.val % 37 = 6 ∨ t.val % 37 = 8 ∨ t.val % 37 = 10 ∨ t.val % 37 = 12 ∨ t.val % 37 = 14 ∨ t.val % 37 = 16 ∨ t.val % 37 = 18 ∨ t.val % 37 = 20 ∨ t.val % 37 = 22 ∨ t.val % 37 = 24 ∨ t.val % 37 = 26 ∨ t.val % 37 = 28 ∨ t.val % 37 = 30 ∨ t.val % 37 = 32 ∨ t.val % 37 = 34 ∨ t.val % 37 = 36)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) (fun h => h1 ((hcond0_1 t).mp h)) ((hcond0_2 t).mpr h2) (iblk m c 0 t) (iblk m c 1 t)) Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_YKernel`'s statement (Defs.lean) at any `F` — Proof.lean cites it at `Bits`:
    `theorem Cert.Proof.claim : Cert.Claim := ⟨Cert.YKernel.Gen.facts, fun m ρ _ => Cert.YKernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.YKernel.Gen

end
-- ==== Proof.YRefValue.lean ====
/- The y reference's result arrays after its run, as functions of its arguments. -/
module

public import proofs.«01_k».proof.Proof.Gen.YReferenceIdeal.Frame
public import Idealize.ShloMosaic.Lib.Pipeline.Value

@[expose] public section

noncomputable section

namespace Cert.YReferenceIdeal.Results

open Cert.YReferenceIdeal Cert.YReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The host operation before the region: x with its last two axes exchanged -/

/-- x with its last two axes exchanged. -/
abbrev turn (v : Vec F S6x1536x2880 .bf16) : Vec F S6x2880x1536 .bf16 :=
  transpose S6x2880x1536 [0, 2, 1] v transposes_S6x1536x2880_S6x2880x1536_0_2_1

/-- The region finds x turned. -/
theorem V_main_v0 (c : Dev nD) : V m c main_v0 = turn (m ((c : Thread nD τ).loc main_arg0)) := by
  unfold V hostOps0
  after_results

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S6x1536x4096.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S6x2880x1536.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S6x90x1536.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_2) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_v1_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

/-! ## Closed form at one grid point: every window's block is its array -/

/-- The offset is zero on every axis. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x2880x1536.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 2880 + 1 * (j 1).val = (j 1).val; omega
  | ⟨2, _⟩ => show win0_0.index t (2 : Fin 3) * 1536 + 1 * (j 2).val = (j 2).val; omega

/-- Input window 0's block at the point is its array as the region finds it. -/
theorem iblk0_eq (c : Dev nD) (t : Fin cfg0.N) : iblk m c 0 t = V m c main_v0 := by
  funext j; show V m c main_v0 (((cfg0.win 0).blk t).view.emb j) = V m c main_v0 j; rw [emb0]

/-- The offset is zero on every axis. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2880x4096.Idx) : ((cfg0.win 1).blk t).view.emb j = j := by
  obtain ⟨e0, e1⟩ := idx_zero1 t
  funext a; apply Fin.ext
  match a with
  | ⟨0, _⟩ => show win0_1.index t (0 : Fin 2) * 2880 + 1 * (j 0).val = (j 0).val; omega
  | ⟨1, _⟩ => show win0_1.index t (1 : Fin 2) * 4096 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The offset is zero on every axis. -/
theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S6x1536x4096.Idx) : ((cfg0.win 2).blk t).view.emb j = j := by
  obtain ⟨e0, e1, e2⟩ := idx_zero2 t
  funext a; apply Fin.ext
  match a with
  | ⟨0, _⟩ => show win0_2.index t (0 : Fin 3) * 6 + 1 * (j 0).val = (j 0).val; omega
  | ⟨1, _⟩ => show win0_2.index t (1 : Fin 3) * 1536 + 1 * (j 1).val = (j 1).val; omega
  | ⟨2, _⟩ => show win0_2.index t (2 : Fin 3) * 4096 + 1 * (j 2).val = (j 2).val; omega

/-- The offset is zero on every axis. -/
theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S6x2880x1536.Idx) : ((cfg0.win 3).blk t).view.emb j = j := by
  obtain ⟨e0, e1, e2⟩ := idx_zero3 t
  funext a; apply Fin.ext
  match a with
  | ⟨0, _⟩ => show win0_3.index t (0 : Fin 3) * 6 + 1 * (j 0).val = (j 0).val; omega
  | ⟨1, _⟩ => show win0_3.index t (1 : Fin 3) * 2880 + 1 * (j 1).val = (j 1).val; omega
  | ⟨2, _⟩ => show win0_3.index t (2 : Fin 3) * 1536 + 1 * (j 2).val = (j 2).val; omega

/-- The offset is zero on every axis. -/
theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S6x90x1536.Idx) : ((cfg0.win 4).blk t).view.emb j = j := by
  obtain ⟨e0, e1, e2⟩ := idx_zero4 t
  funext a; apply Fin.ext
  match a with
  | ⟨0, _⟩ => show win0_4.index t (0 : Fin 3) * 6 + 1 * (j 0).val = (j 0).val; omega
  | ⟨1, _⟩ => show win0_4.index t (1 : Fin 3) * 90 + 1 * (j 1).val = (j 1).val; omega
  | ⟨2, _⟩ => show win0_4.index t (2 : Fin 3) * 1536 + 1 * (j 2).val = (j 2).val; omega

/-! ### Output window 2: the array after the run -/

/-- What the window's array ends holding: `out0_2` applied to the argument arrays in place of the input blocks (a value that the
    frame states apart, `kK_payN a…`, keeps its loads inside its own definition). -/
abbrev G2 (a0 : Vec F S6x2880x1536 .bf16) (a1 : Vec F S2880x4096 .bf16) : Vec F S6x1536x4096 .bf16 :=
  k0_pay6 a0 a1

/-- A load of the whole of a block reads the block, and the one store through the whole rectangle leaves its payload. -/
theorem out2_eq (a0 : Vec F S6x2880x1536 .bf16) (a1 : Vec F S2880x4096 .bf16) : out0_2 (F := F) a0 a1 = G2 a0 a1 := by
  unfold out0_2
  rw [View.canon_unit_zero hz2, View.ld_unit_zero (S := S6x2880x1536) hz0 _ a0, View.ld_unit_zero (S := S2880x4096) hz1 _ a1]

/-- Cutting the point's block out of `X` and reading `X` through the block's view give the same. -/
theorem cut2_eq (t : Fin cfg0.N) (X : Vec F S6x1536x4096 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_v0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S6x1536x4096.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (turn (m ((c : Thread nD τ).loc main_arg0))) (m ((c : Thread nD τ).loc main_arg1)) :=
  ((dats m 0 c).arrAt_eq_of_cover 2 (G2 (V m c main_v0) (V m c main_arg1)) (fun t _ => flushed2_eq m c t) covered2).trans (by rw [V_main_v0, V_main_arg1])

/-! ### Output window 3: the array after the run -/

/-- What the window's array ends holding: `out0_3` applied to the argument arrays in place of the input blocks (a value that the
    frame states apart, `kK_payN a…`, keeps its loads inside its own definition). -/
abbrev G3 (a0 : Vec F S6x2880x1536 .bf16) (a1 : Vec F S2880x4096 .bf16) : Vec F S6x2880x1536 .fp8e4m3 :=
  k0_pay1 (k0_pay5 a0)

/-- A load of the whole of a block reads the block, and the one store through the whole rectangle leaves its payload. -/
theorem out3_eq (a0 : Vec F S6x2880x1536 .bf16) (a1 : Vec F S2880x4096 .bf16) : out0_3 (F := F) a0 a1 = G3 a0 a1 := by
  unfold out0_3
  rw [View.canon_unit_zero hz3, View.ld_unit_zero (S := S6x2880x1536) hz0 _ a0]

/-- Cutting the point's block out of `X` and reading `X` through the block's view give the same. -/
theorem cut3_eq (t : Fin cfg0.N) (X : Vec F S6x2880x1536 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_v0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S6x2880x1536.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (turn (m ((c : Thread nD τ).loc main_arg0))) (m ((c : Thread nD τ).loc main_arg1)) :=
  ((dats m 0 c).arrAt_eq_of_cover 3 (G3 (V m c main_v0) (V m c main_arg1)) (fun t _ => flushed3_eq m c t) covered3).trans (by rw [V_main_v0, V_main_arg1])

/-! ### Output window 4: the array after the run -/

/-- What the window's array ends holding: `out0_4` applied to the argument arrays in place of the input blocks (a value that the
    frame states apart, `kK_payN a…`, keeps its loads inside its own definition). -/
abbrev G4 (a0 : Vec F S6x2880x1536 .bf16) (a1 : Vec F S2880x4096 .bf16) : Vec F S6x90x1536 .i8 :=
  k0_pay2 (k0_pay4 a0)

/-- A load of the whole of a block reads the block, and the one store through the whole rectangle leaves its payload. -/
theorem out4_eq (a0 : Vec F S6x2880x1536 .bf16) (a1 : Vec F S2880x4096 .bf16) : out0_4 (F := F) a0 a1 = G4 a0 a1 := by
  unfold out0_4
  rw [View.canon_unit_zero hz4, View.ld_unit_zero (S := S6x2880x1536) hz0 _ a0]

/-- Cutting the point's block out of `X` and reading `X` through the block's view give the same. -/
theorem cut4_eq (t : Fin cfg0.N) (X : Vec F S6x90x1536 .i8) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_v0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S6x90x1536.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (turn (m ((c : Thread nD τ).loc main_arg0))) (m ((c : Thread nD τ).loc main_arg1)) :=
  ((dats m 0 c).arrAt_eq_of_cover 4 (G4 (V m c main_v0) (V m c main_arg1)) (fun t _ => flushed4_eq m c t) covered4).trans (by rw [V_main_v0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v1_0) = G2 (turn (m ((c : Thread nD τ).loc main_arg0))) (m ((c : Thread nD τ).loc main_arg1))
      ∧ r.2.mem ((c : Thread nD τ).loc main_v1_1) = G3 (turn (m ((c : Thread nD τ).loc main_arg0))) (m ((c : Thread nD τ).loc main_arg1))
      ∧ r.2.mem ((c : Thread nD τ).loc main_v1_2) = G4 (turn (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.YReferenceIdeal.Results

end
-- ==== Proof.YQ.lean ====
/- One piece of the y kernel's quantiser, 128 rows (the last piece 64) by 256 columns, as one definition per value: the kernel's text
   states it once per piece and branch. -/
module

public import proofs.«01_k».proof.Proof.Gen.YKernelIdeal
public import proofs.«01_k».proof.Proof.Gen.YKernelIdeal.Skeleton
public import Idealize.ShloMosaic.Lib.Pointwise

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic

variable {F : FTy → Type} [FloatOps F]

/-- One step of the search for the exponent field: take the bit when the power it gives is at most `p`. -/
def stepV {S : Shape} (b : BitVec 32) (p : FVec F S .f32) (e : IVec S 32) : IVec S 32 :=
  select (cmpf .oge p (bitcastToFloat .f32 (shli (addi e (broadcast S b)) (broadcast S 23#32)))) (addi e (broadcast S b)) e

/-- The exponent field of `p`, bit by bit. -/
def fieldV {S : Shape} (p : FVec F S .f32) : IVec S 32 :=
  stepV 1#32 p (stepV 2#32 p (stepV 4#32 p (stepV 8#32 p (stepV 16#32 p (stepV 32#32 p (stepV 64#32 p (stepV 128#32 p (broadcast S 0#32))))))))

/-- The block's biased exponent. -/
def byteV {S : Shape} (p : FVec F S .f32) : IVec S 32 :=
  select (ori (cmpi .eq (fieldV p) (broadcast S 0#32)) (cmpi .eq (fieldV p) (broadcast S 255#32))) (broadcast S 127#32)
    (addi (fieldV p) (broadcast S 1#32))

/-- The factor a block is divided by, as the power it is multiplied with. -/
def invV {S : Shape} (p : FVec F S .f32) : FVec F S .bf16 :=
  truncf .bf16 (bitcastToFloat .f32 (shli (subi (broadcast S 254#32) (byteV p)) (broadcast S 23#32))) bitsLt_bf16_f32

/-- The block's scale. -/
def scaleV {S : Shape} (p : FVec F S .f32) : FVec F S .bf16 :=
  truncf .bf16 (bitcastToFloat .f32 (shli (byteV p) (broadcast S 23#32))) bitsLt_bf16_f32

/-! ## A piece of 128 rows -/

/-- The piece as blocks. -/
def castL (v : Vec F S1x128x256 .bf16) : FVec F S4x32x256 .bf16 :=
  shapeCast S4x32x256 (shapeCast S128x256 v shapeCasts_S1x128x256_S128x256 : FVec F S128x256 .bf16) shapeCasts_S128x256_S4x32x256

/-- A block's greatest magnitude over 448. -/
def ampL (u : FVec F S4x32x256 .bf16) : FVec F S4x256 .f32 :=
  mulf (extf .f32 (multiReduction .maximumf [1] S4x256 (absf u) 0xFF80#16 reduces_S4x32x256_S4x256 (.inr rfl) rfl : FVec F S4x256 .bf16) bitsLt_bf16_f32)
    (broadcast S4x256 (Scalar.ofBits .f32 0x3B124925#32 : F .f32))

/-- A value per block, at every element of the block. -/
def spreadL (s : FVec F S4x256 .bf16) : FVec F S4x32x256 .bf16 :=
  broadcastTo S4x32x256 (shapeCast S4x1x256 s shapeCasts_S4x256_S4x1x256 : FVec F S4x1x256 .bf16) broadcasts_S4x1x256_S4x32x256

/-- The piece's codes. -/
def codesL (u : FVec F S4x32x256 .bf16) : FVec F S4x32x256 .fp8e4m3 :=
  truncf .fp8e4m3 (minimumf (broadcast S4x32x256 (Scalar.truncf .bf16 bitsLt_bf16_f32 (Scalar.ofBits .f32 0x43E00000#32 : F .f32)))
    (maximumf (broadcast S4x32x256 (Scalar.truncf .bf16 bitsLt_bf16_f32 (Scalar.ofBits .f32 0xC3E00000#32 : F .f32)))
      (mulf u (spreadL (invV (ampL u)))))) bitsLt_fp8e4m3_bf16

/-- The piece's values back at full width. -/
def wideL (u : FVec F S4x32x256 .bf16) : FVec F S4x32x256 .bf16 := mulf (extf .bf16 (codesL u) bitsLt_fp8e4m3_bf16) (spreadL (scaleV (ampL u)))

/-- The piece's codes as stored. -/
def pieceCodesL (v : Vec F S1x128x256 .bf16) : FVec F S1x128x256 .fp8e4m3 :=
  shapeCast S1x128x256 (shapeCast S128x256 (codesL (castL v)) shapeCasts_S4x32x256_S128x256 : FVec F S128x256 .fp8e4m3) shapeCasts_S128x256_S1x128x256

/-- The piece's values back at full width, as stored: turned. -/
def pieceWideL (v : Vec F S1x128x256 .bf16) : FVec F S256x128 .bf16 :=
  shapeCast S256x128 (transpose S256x128 [1, 0] (shapeCast S128x256 (wideL (castL v)) shapeCasts_S4x32x256_S128x256 : FVec F S128x256 .bf16)
    transposes_S128x256_p1_0_S256x128 : FVec F S256x128 .bf16) shapeCasts_S256x128_S256x128

/-- The piece's exponents. -/
def pieceBytesL (v : Vec F S1x128x256 .bf16) : IVec S4x256 32 := byteV (ampL (castL v))

/-! ## A piece of 64 rows -/

/-- The piece as blocks. -/
def castT (v : Vec F S1x64x256 .bf16) : FVec F S2x32x256 .bf16 :=
  shapeCast S2x32x256 (shapeCast S64x256 v shapeCasts_S1x64x256_S64x256 : FVec F S64x256 .bf16) shapeCasts_S64x256_S2x32x256

/-- A block's greatest magnitude over 448. -/
def ampT (u : FVec F S2x32x256 .bf16) : FVec F S2x256 .f32 :=
  mulf (extf .f32 (multiReduction .maximumf [1] S2x256 (absf u) 0xFF80#16 reduces_S2x32x256_S2x256 (.inr rfl) rfl : FVec F S2x256 .bf16) bitsLt_bf16_f32)
    (broadcast S2x256 (Scalar.ofBits .f32 0x3B124925#32 : F .f32))

/-- A value per block, at every element of the block. -/
def spreadT (s : FVec F S2x256 .bf16) : FVec F S2x32x256 .bf16 :=
  broadcastTo S2x32x256 (shapeCast S2x1x256 s shapeCasts_S2x256_S2x1x256 : FVec F S2x1x256 .bf16) broadcasts_S2x1x256_S2x32x256

/-- The piece's codes. -/
def codesT (u : FVec F S2x32x256 .bf16) : FVec F S2x32x256 .fp8e4m3 :=
  truncf .fp8e4m3 (minimumf (broadcast S2x32x256 (Scalar.truncf .bf16 bitsLt_bf16_f32 (Scalar.ofBits .f32 0x43E00000#32 : F .f32)))
    (maximumf (broadcast S2x32x256 (Scalar.truncf .bf16 bitsLt_bf16_f32 (Scalar.ofBits .f32 0xC3E00000#32 : F .f32)))
      (mulf u (spreadT (invV (ampT u)))))) bitsLt_fp8e4m3_bf16

/-- The piece's values back at full width. -/
def wideT (u : FVec F S2x32x256 .bf16) : FVec F S2x32x256 .bf16 := mulf (extf .bf16 (codesT u) bitsLt_fp8e4m3_bf16) (spreadT (scaleV (ampT u)))

/-- The piece's codes as stored. -/
def pieceCodesT (v : Vec F S1x64x256 .bf16) : FVec F S1x64x256 .fp8e4m3 :=
  shapeCast S1x64x256 (shapeCast S64x256 (codesT (castT v)) shapeCasts_S2x32x256_S64x256 : FVec F S64x256 .fp8e4m3) shapeCasts_S64x256_S1x64x256

/-- The piece's values back at full width, as stored: turned. -/
def pieceWideT (v : Vec F S1x64x256 .bf16) : FVec F S256x64 .bf16 :=
  shapeCast S256x64 (transpose S256x64 [1, 0] (shapeCast S64x256 (wideT (castT v)) shapeCasts_S2x32x256_S64x256 : FVec F S64x256 .bf16)
    transposes_S64x256_p1_0_S256x64 : FVec F S256x64 .bf16) shapeCasts_S256x64_S256x64

/-- The piece's exponents. -/
def pieceBytesT (v : Vec F S1x64x256 .bf16) : IVec S2x256 32 := byteV (ampT (castT v))

/-! ## What is stored once -/

/-- The chunk's exponents as stored: all the pieces'. -/
def allBytes (b0 b1 b2 b3 b4 b5 b6 b7 b8 b9 b10 b11 b12 b13 b14 b15 b16 b17 b18 b19 b20 b21 : IVec S4x256 32) (b22 : IVec S2x256 32) : IVec S1x90x256 8 :=
  shapeCast S1x90x256 (trunci 8 (concatenate S90x256 0
    [⟨S4x256, b0⟩, ⟨S4x256, b1⟩, ⟨S4x256, b2⟩, ⟨S4x256, b3⟩, ⟨S4x256, b4⟩, ⟨S4x256, b5⟩, ⟨S4x256, b6⟩, ⟨S4x256, b7⟩, ⟨S4x256, b8⟩, ⟨S4x256, b9⟩, ⟨S4x256, b10⟩, ⟨S4x256, b11⟩, ⟨S4x256, b12⟩, ⟨S4x256, b13⟩, ⟨S4x256, b14⟩, ⟨S4x256, b15⟩, ⟨S4x256, b16⟩, ⟨S4x256, b17⟩, ⟨S4x256, b18⟩, ⟨S4x256, b19⟩, ⟨S4x256, b20⟩, ⟨S4x256, b21⟩, ⟨S2x256, b22⟩]
    concatenates_S4x256_S4x256_S4x256_S4x256_S4x256_S4x256_S4x256_S4x256_S4x256_S4x256_S4x256_S4x256_S4x256_S4x256_S4x256_S4x256_S4x256_S4x256_S4x256_S4x256_S4x256_S4x256_S2x256_S90x256_d0 : IVec S90x256 32) natLt_8_32) shapeCasts_S90x256_S1x90x256

/-- Columns of a product as stored. -/
def dotCols (a : Vec F S256x2880 .bf16) (b : Vec F S2880x512 .bf16) : FVec F S1x256x512 .bf16 :=
  shapeCast S1x256x512 (truncf .bf16 (matmul dot_S256x2880_S2880x512_S256x512_1_0_0_1_n_n none a b (constant S256x512 .f32 0x00000000#32)) bitsLt_bf16_f32 : FVec F S256x512 .bf16)
    shapeCasts_S256x512_S1x256x512

end Cert.YKernelIdeal.Y

end
-- ==== Proof.YPiece.lean ====
/- What one piece's stores hold over the reals: the line's codes, exponents and values at the piece's place. -/
module

public import proofs.«01_k».proof.Proof.YQ
public import proofs.«01_k».proof.Proof.Quant
public import Idealize.ShloMosaic.Lib.WholeRead
public import Idealize.ShloMosaic.Lib.Pipeline.ValueKit.Geometry

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Cert.Quant

/-- A row of a chunk (the chunk is handed over turned, so a row is a column of it). -/
def lane (x : Vec Ideal S1x2880x256 .bf16) (r : Fin 256) : Fin 2880 → EReal := fun n => x (ix3 (0 : Fin 1) n r)

/-- A chunk's codes. -/
def Codes (x : Vec Ideal S1x2880x256 .bf16) : Vec Ideal S1x2880x256 .fp8e4m3 := fun j => rowCode (by decide) (lane x (j 2)) (j 1)

/-- A chunk's exponents. -/
def Bytes (x : Vec Ideal S1x2880x256 .bf16) : Vec Ideal S1x90x256 .i8 := fun j =>
  rowByte (lane x (j 2)) (j 1).val (by have h : (j 1).val < 90 := (j 1).isLt; omega)

/-- A chunk's values after coding and decoding. -/
def Wide (x : Vec Ideal S1x2880x256 .bf16) : Vec Ideal S256x2880 .bf16 := fun j => rowWide (by decide) (lane x (j 0)) (j 1)

/-- A chunk's product. -/
def Prod (w : Vec Ideal S2880x4096 .bf16) (a : Vec Ideal S256x2880 .bf16) : Vec Ideal S1x256x4096 .bf16 := fun j =>
  ∑ n : Fin 2880, a (ix2 (j 1 : Fin 256) n) * w (ix2 n (j 2 : Fin 4096))

/-- One step of the bisection, at an index. -/
theorem step_apply {S : Shape} (b : BitVec 32) (p : FVec Ideal S .f32) (e : IVec S 32) (j : S.Idx) : stepV b p e j = step b (p j) (e j) := by
  unfold stepV step
  by_cases h : ofField (IntOp.addi (e j) b) ≤ p j
  · rw [if_pos h]
    show Scalar.select (Ideal.cmp .oge (p j) (ofField (IntOp.addi (e j) b))) (IntOp.addi (e j) b) (e j) = _
    rw [show Ideal.cmp .oge (p j) (ofField (IntOp.addi (e j) b)) = 1#1 from by simp [Ideal.cmp, h]]
    rfl
  · rw [if_neg h]
    show Scalar.select (Ideal.cmp .oge (p j) (ofField (IntOp.addi (e j) b))) (IntOp.addi (e j) b) (e j) = _
    rw [show Ideal.cmp .oge (p j) (ofField (IntOp.addi (e j) b)) = 0#1 from by simp [Ideal.cmp, h]]
    rfl

/-- The exponent field, at an index. -/
theorem field_apply {S : Shape} (p : FVec Ideal S .f32) (j : S.Idx) : fieldV p j = field (p j) := by
  unfold fieldV field
  rw [step_apply, step_apply, step_apply, step_apply, step_apply, step_apply, step_apply, step_apply]
  rfl

/-- The choice of the byte, at an index. -/
theorem byte_of {S : Shape} (t : IVec S 32) (j : S.Idx) :
    select (ori (cmpi .eq t (broadcast S 0#32)) (cmpi .eq t (broadcast S 255#32))) (broadcast S 127#32) (addi t (broadcast S 1#32)) j
      = Scalar.select (IntOp.ori (IntOp.cmpi .eq (t j) 0#32) (IntOp.cmpi .eq (t j) 255#32)) (127#32) (IntOp.addi (t j) 1#32) := rfl

/-- The exponent byte, at an index. -/
theorem byte_apply {S : Shape} (p : FVec Ideal S .f32) (j : S.Idx) : byteV p j = byte (p j) := by
  unfold byteV byte
  rw [byte_of, field_apply]

/-- The inverse scale from the byte, at an index. -/
theorem inv_of {S : Shape} (t : IVec S 32) (j : S.Idx) :
    (truncf .bf16 (bitcastToFloat .f32 (shli (subi (broadcast S 254#32) t) (broadcast S 23#32)) : FVec Ideal S .f32) bitsLt_bf16_f32) j
      = ofField (IntOp.subi 254#32 (t j)) := rfl

/-- The scale from the byte, at an index. -/
theorem scale_of {S : Shape} (t : IVec S 32) (j : S.Idx) :
    (truncf .bf16 (bitcastToFloat .f32 (shli t (broadcast S 23#32)) : FVec Ideal S .f32) bitsLt_bf16_f32) j = ofField (t j) := rfl

/-- The inverse scale, at an index. -/
theorem inv_apply {S : Shape} (p : FVec Ideal S .f32) (j : S.Idx) : invV p j = inv (p j) := by
  unfold invV Cert.Quant.inv
  rw [inv_of, byte_apply]

/-- The scale, at an index. -/
theorem scale_apply {S : Shape} (p : FVec Ideal S .f32) (j : S.Idx) : scaleV p j = scale (p j) := by
  unfold scaleV Cert.Quant.scale
  rw [scale_of, byte_apply]

/-- Equal block numbers give the same block. -/
theorem blk_congr {N : ℕ} (row : Fin N → EReal) {g g' : ℕ} (e : g = g') (hg : g * 32 + 32 ≤ N) (hg' : g' * 32 + 32 ≤ N) : blk row g hg = blk row g' hg' := by
  subst e; rfl

/-! ## A piece of 128 rows -/

section

/-- The piece cut into blocks, at an index. -/
theorem castL_apply (v : Vec Ideal S1x128x256 .bf16) (j : S4x32x256.Idx) :
    castL v j = v (ix3 (0 : Fin 1) (⟨(j 0).val * 32 + (j 1).val, by have h : (j 0).val < 4 := (j 0).isLt; have h' : (j 1).val < 32 := (j 1).isLt; omega⟩ : Fin 128) (j 2 : Fin 256)) := by
  pointwise [castL]

/-- A block's greatest absolute value, at an index. -/
theorem ampL_apply (u : FVec Ideal S4x32x256 .bf16) (j : S4x256.Idx) : ampL u j = amp (fun k => u (ix3 (j 0 : Fin 4) k (j 1 : Fin 256))) := by
  pointwise [ampL]
  rfl

/-- A scale spread over its block, at an index. -/
theorem spreadL_apply (s : FVec Ideal S4x256 .bf16) (j : S4x32x256.Idx) : spreadL s j = s (ix2 (j 0 : Fin 4) (j 2 : Fin 256)) := by
  pointwise [spreadL]

/-- The codes of a piece, at an index. -/
theorem codeL_apply (u : FVec Ideal S4x32x256 .bf16) (j : S4x32x256.Idx) : codesL u j = code (spreadL (invV (ampL u)) j) (u j) := rfl

/-- The values of a piece, at an index. -/
theorem wideL_apply (u : FVec Ideal S4x32x256 .bf16) (j : S4x32x256.Idx) : wideL u j = codesL u j * spreadL (scaleV (ampL u)) j := rfl

/-- The blocks put back into rows, at an index. -/
theorem flatL_apply {e : FTy} (v : FVec Ideal S4x32x256 e) (j : S1x128x256.Idx) :
    shapeCast S1x128x256 (shapeCast S128x256 v shapeCasts_S4x32x256_S128x256 : FVec Ideal S128x256 e) shapeCasts_S128x256_S1x128x256 j
      = v (ix3 (⟨(j 1).val / 32, by have h : (j 1).val < 128 := (j 1).isLt; omega⟩ : Fin 4) (⟨(j 1).val % 32, Nat.mod_lt _ (by decide)⟩ : Fin 32) (j 2 : Fin 256)) := by
  pointwise []

/-- The blocks put back into rows and turned, at an index. -/
theorem turnL_apply (v : FVec Ideal S4x32x256 .bf16) (j : S256x128.Idx) :
    shapeCast S256x128 (transpose S256x128 [1, 0] (shapeCast S128x256 v shapeCasts_S4x32x256_S128x256 : FVec Ideal S128x256 .bf16)
        transposes_S128x256_p1_0_S256x128 : FVec Ideal S256x128 .bf16) shapeCasts_S256x128_S256x128 j
      = v (ix3 (⟨(j 1).val / 32, by have h : (j 1).val < 128 := (j 1).isLt; omega⟩ : Fin 4) (⟨(j 1).val % 32, Nat.mod_lt _ (by decide)⟩ : Fin 32) (j 0 : Fin 256)) := by
  pointwise []

/-- The piece loaded at a place of a chunk. -/
def AtL (x : Vec Ideal S1x2880x256 .bf16) (v : Vec Ideal S1x128x256 .bf16) (r : ℕ) (hr : r + 128 ≤ 2880) : Prop :=
  ∀ (a : Fin 128) (b : Fin 256), v (ix3 (0 : Fin 1) a b) = lane x b ⟨r + a.val, by omega⟩

variable {x : Vec Ideal S1x2880x256 .bf16} {v : Vec Ideal S1x128x256 .bf16} {r : ℕ} {hr : r + 128 ≤ 2880}

/-- A loaded piece has the row's block maxima. -/
theorem AtL.amp (h : AtL x v r hr) (h32 : r % 32 = 0) (g : Fin 4) (b : Fin 256) :
    ampL (castL v) (ix2 g b) = Cert.Quant.amp (blk (lane x b) (r / 32 + g.val) (by omega)) := by
  rw [ampL_apply]
  refine congrArg Cert.Quant.amp (funext fun k => ?_)
  rw [castL_apply]
  refine (h ⟨g.val * 32 + k.val, by omega⟩ b).trans ?_
  unfold blk
  refine congrArg _ (Fin.ext ?_)
  show r + (g.val * 32 + k.val) = (r / 32 + g.val) * 32 + k.val
  omega

/-- A loaded piece has the row's codes. -/
theorem AtL.codes (h : AtL x v r hr) (h32 : r % 32 = 0) (g : Fin 4) (k : Fin 32) (b : Fin 256) (n : Fin 2880) (hn : n.val = r + (g.val * 32 + k.val)) :
    codesL (castL v) (ix3 g k b) = rowCode (by decide) (lane x b) n := by
  rw [codeL_apply, spreadL_apply, inv_apply]
  refine (congrArg₂ (fun p u => code (inv p) u) (h.amp h32 g b) ((castL_apply v (ix3 g k b)).trans (h ⟨g.val * 32 + k.val, by omega⟩ b))).trans ?_
  unfold rowCode
  rw [blk_congr _ (show r / 32 + g.val = n.val / 32 by omega)]
  refine congrArg _ (congrArg (lane x b) (Fin.ext hn.symm))

/-- A loaded piece has the row's values. -/
theorem AtL.wide (h : AtL x v r hr) (h32 : r % 32 = 0) (g : Fin 4) (k : Fin 32) (b : Fin 256) (n : Fin 2880) (hn : n.val = r + (g.val * 32 + k.val)) :
    wideL (castL v) (ix3 g k b) = rowWide (by decide) (lane x b) n := by
  unfold rowWide
  rw [wideL_apply, h.codes h32 g k b n hn, spreadL_apply, scale_apply]
  refine congrArg _ (congrArg Cert.Quant.scale ((h.amp h32 g b).trans (congrArg Cert.Quant.amp (blk_congr _ ?_ _ _))))
  omega

/-- A loaded piece has the row's exponents. -/
theorem AtL.bytes (h : AtL x v r hr) (h32 : r % 32 = 0) (g : Fin 4) (b : Fin 256) :
    pieceBytesL v (ix2 g b) = byte (Cert.Quant.amp (blk (lane x b) (r / 32 + g.val) (by omega))) := by
  unfold pieceBytesL
  rw [byte_apply, h.amp h32]

end

/-- The piece lies within the chunk. -/
theorem inbL (r : ℕ) (hr : r + 128 ≤ 2880) (a : Fin 3) : (![0, r, 0] : Fin 3 → ℕ) a + S1x128x256.size a ≤ S1x2880x256.size a := by
  fin_cases a
  · exact Nat.le_refl 1
  · exact hr
  · exact Nat.le_refl 256

/-- The piece lies within the slot. -/
theorem inbSL (r : ℕ) (hr : r + 128 ≤ 2880) (a : Fin 2) : (![0, r] : Fin 2 → ℕ) a + S256x128.size a ≤ S256x2880.size a := by
  fin_cases a
  · exact Nat.le_refl 256
  · exact hr

/-- A load of a piece. -/
theorem loadL {M : Memref sig .tc .vmem S1x2880x256 .bf16} (hM : M.IsWhole) (x : Vec Ideal S1x2880x256 .bf16) (r : ℕ) (hr : r + 128 ≤ 2880)
    (inb : ∀ a, (![0, r, 0] : Fin 3 → ℕ) a + S1x128x256.size a ≤ S1x2880x256.size a) :
    AtL x (View.readAt (Elt Ideal) M.view (Rect.unit (s := S1x2880x256) ![0, r, 0] S1x128x256.size inb).toLoadRect (hM.unread x)) r hr := by
  intro a b
  refine (hM.readAt_unread x _ _).trans ?_
  unfold lane
  refine congrArg x (funext fun k => Fin.ext ?_)
  refine (ValueKit.rect_emb_unit_val _ _ inb _ k).trans ?_
  fin_cases k
  · rfl
  · rfl
  · exact Nat.zero_add _

/-- The stored codes of a piece are the chunk's. -/
theorem codes_pieceL {M : Memref sig .tc .vmem S1x2880x256 .bf16} (hM : M.IsWhole) (x : Vec Ideal S1x2880x256 .bf16) (r : ℕ) (hr : r + 128 ≤ 2880)
    (h32 : r % 32 = 0) (y : S1x128x256.Idx) :
    pieceCodesL (View.readAt (Elt Ideal) M.view (Rect.unit (s := S1x2880x256) ![0, r, 0] S1x128x256.size (inbL r hr)).toLoadRect (hM.unread x)) y
      = Codes x ((Rect.unit (s := S1x2880x256) ![0, r, 0] S1x128x256.size (inbL r hr)).emb y) := by
  have e1 := ValueKit.rect_emb_unit_val (s := S1x2880x256) ![0, r, 0] S1x128x256.size (inbL r hr) y 1
  have e2 := ValueKit.rect_emb_unit_val (s := S1x2880x256) ![0, r, 0] S1x128x256.size (inbL r hr) y 2
  unfold pieceCodesL Codes
  rw [flatL_apply]
  refine ((loadL hM x r hr (inbL r hr)).codes h32 _ _ (y 2 : Fin 256) ((Rect.unit (s := S1x2880x256) ![0, r, 0] S1x128x256.size (inbL r hr)).emb y 1) ?_).trans ?_
  · refine e1.trans ?_
    show r + (y 1).val = r + ((y 1).val / 32 * 32 + (y 1).val % 32)
    omega
  · refine congrArg (fun p : Fin 256 => rowCode (by decide) (lane x p) _) (Fin.ext ?_)
    exact (e2.trans (Nat.zero_add _)).symm

/-- The stored values of a piece are the chunk's. -/
theorem wide_pieceL {M : Memref sig .tc .vmem S1x2880x256 .bf16} (hM : M.IsWhole) (x : Vec Ideal S1x2880x256 .bf16) (r : ℕ) (hr : r + 128 ≤ 2880)
    (h32 : r % 32 = 0) (y : S256x128.Idx) :
    pieceWideL (View.readAt (Elt Ideal) M.view (Rect.unit (s := S1x2880x256) ![0, r, 0] S1x128x256.size (inbL r hr)).toLoadRect (hM.unread x)) y
      = Wide x ((Rect.unit (s := S256x2880) ![0, r] S256x128.size (inbSL r hr)).emb y) := by
  have e0 := ValueKit.rect_emb_unit_val (s := S256x2880) ![0, r] S256x128.size (inbSL r hr) y 0
  have e1 := ValueKit.rect_emb_unit_val (s := S256x2880) ![0, r] S256x128.size (inbSL r hr) y 1
  unfold pieceWideL Wide
  rw [turnL_apply]
  refine ((loadL hM x r hr (inbL r hr)).wide h32 _ _ (y 0 : Fin 256) ((Rect.unit (s := S256x2880) ![0, r] S256x128.size (inbSL r hr)).emb y 1) ?_).trans ?_
  · refine e1.trans ?_
    show r + (y 1).val = r + ((y 1).val / 32 * 32 + (y 1).val % 32)
    omega
  · refine congrArg (fun p : Fin 256 => rowWide (by decide) (lane x p) _) (Fin.ext ?_)
    exact (e0.trans (Nat.zero_add _)).symm

/-! ## A piece of 64 rows -/

section

/-- The piece cut into blocks, at an index. -/
theorem castT_apply (v : Vec Ideal S1x64x256 .bf16) (j : S2x32x256.Idx) :
    castT v j = v (ix3 (0 : Fin 1) (⟨(j 0).val * 32 + (j 1).val, by have h : (j 0).val < 2 := (j 0).isLt; have h' : (j 1).val < 32 := (j 1).isLt; omega⟩ : Fin 64) (j 2 : Fin 256)) := by
  pointwise [castT]

/-- A block's greatest absolute value, at an index. -/
theorem ampT_apply (u : FVec Ideal S2x32x256 .bf16) (j : S2x256.Idx) : ampT u j = amp (fun k => u (ix3 (j 0 : Fin 2) k (j 1 : Fin 256))) := by
  pointwise [ampT]
  rfl

/-- A scale spread over its block, at an index. -/
theorem spreadT_apply (s : FVec Ideal S2x256 .bf16) (j : S2x32x256.Idx) : spreadT s j = s (ix2 (j 0 : Fin 2) (j 2 : Fin 256)) := by
  pointwise [spreadT]

/-- The codes of a piece, at an index. -/
theorem codeT_apply (u : FVec Ideal S2x32x256 .bf16) (j : S2x32x256.Idx) : codesT u j = code (spreadT (invV (ampT u)) j) (u j) := rfl

/-- The values of a piece, at an index. -/
theorem wideT_apply (u : FVec Ideal S2x32x256 .bf16) (j : S2x32x256.Idx) : wideT u j = codesT u j * spreadT (scaleV (ampT u)) j := rfl

/-- The blocks put back into rows, at an index. -/
theorem flatT_apply {e : FTy} (v : FVec Ideal S2x32x256 e) (j : S1x64x256.Idx) :
    shapeCast S1x64x256 (shapeCast S64x256 v shapeCasts_S2x32x256_S64x256 : FVec Ideal S64x256 e) shapeCasts_S64x256_S1x64x256 j
      = v (ix3 (⟨(j 1).val / 32, by have h : (j 1).val < 64 := (j 1).isLt; omega⟩ : Fin 2) (⟨(j 1).val % 32, Nat.mod_lt _ (by decide)⟩ : Fin 32) (j 2 : Fin 256)) := by
  pointwise []

/-- The blocks put back into rows and turned, at an index. -/
theorem turnT_apply (v : FVec Ideal S2x32x256 .bf16) (j : S256x64.Idx) :
    shapeCast S256x64 (transpose S256x64 [1, 0] (shapeCast S64x256 v shapeCasts_S2x32x256_S64x256 : FVec Ideal S64x256 .bf16)
        transposes_S64x256_p1_0_S256x64 : FVec Ideal S256x64 .bf16) shapeCasts_S256x64_S256x64 j
      = v (ix3 (⟨(j 1).val / 32, by have h : (j 1).val < 64 := (j 1).isLt; omega⟩ : Fin 2) (⟨(j 1).val % 32, Nat.mod_lt _ (by decide)⟩ : Fin 32) (j 0 : Fin 256)) := by
  pointwise []

/-- The piece loaded at a place of a chunk. -/
def AtT (x : Vec Ideal S1x2880x256 .bf16) (v : Vec Ideal S1x64x256 .bf16) (r : ℕ) (hr : r + 64 ≤ 2880) : Prop :=
  ∀ (a : Fin 64) (b : Fin 256), v (ix3 (0 : Fin 1) a b) = lane x b ⟨r + a.val, by omega⟩

variable {x : Vec Ideal S1x2880x256 .bf16} {v : Vec Ideal S1x64x256 .bf16} {r : ℕ} {hr : r + 64 ≤ 2880}

/-- A loaded piece has the row's block maxima. -/
theorem AtT.amp (h : AtT x v r hr) (h32 : r % 32 = 0) (g : Fin 2) (b : Fin 256) :
    ampT (castT v) (ix2 g b) = Cert.Quant.amp (blk (lane x b) (r / 32 + g.val) (by omega)) := by
  rw [ampT_apply]
  refine congrArg Cert.Quant.amp (funext fun k => ?_)
  rw [castT_apply]
  refine (h ⟨g.val * 32 + k.val, by omega⟩ b).trans ?_
  unfold blk
  refine congrArg _ (Fin.ext ?_)
  show r + (g.val * 32 + k.val) = (r / 32 + g.val) * 32 + k.val
  omega

/-- A loaded piece has the row's codes. -/
theorem AtT.codes (h : AtT x v r hr) (h32 : r % 32 = 0) (g : Fin 2) (k : Fin 32) (b : Fin 256) (n : Fin 2880) (hn : n.val = r + (g.val * 32 + k.val)) :
    codesT (castT v) (ix3 g k b) = rowCode (by decide) (lane x b) n := by
  rw [codeT_apply, spreadT_apply, inv_apply]
  refine (congrArg₂ (fun p u => code (inv p) u) (h.amp h32 g b) ((castT_apply v (ix3 g k b)).trans (h ⟨g.val * 32 + k.val, by omega⟩ b))).trans ?_
  unfold rowCode
  rw [blk_congr _ (show r / 32 + g.val = n.val / 32 by omega)]
  refine congrArg _ (congrArg (lane x b) (Fin.ext hn.symm))

/-- A loaded piece has the row's values. -/
theorem AtT.wide (h : AtT x v r hr) (h32 : r % 32 = 0) (g : Fin 2) (k : Fin 32) (b : Fin 256) (n : Fin 2880) (hn : n.val = r + (g.val * 32 + k.val)) :
    wideT (castT v) (ix3 g k b) = rowWide (by decide) (lane x b) n := by
  unfold rowWide
  rw [wideT_apply, h.codes h32 g k b n hn, spreadT_apply, scale_apply]
  refine congrArg _ (congrArg Cert.Quant.scale ((h.amp h32 g b).trans (congrArg Cert.Quant.amp (blk_congr _ ?_ _ _))))
  omega

/-- A loaded piece has the row's exponents. -/
theorem AtT.bytes (h : AtT x v r hr) (h32 : r % 32 = 0) (g : Fin 2) (b : Fin 256) :
    pieceBytesT v (ix2 g b) = byte (Cert.Quant.amp (blk (lane x b) (r / 32 + g.val) (by omega))) := by
  unfold pieceBytesT
  rw [byte_apply, h.amp h32]

end

/-- The piece lies within the chunk. -/
theorem inbT (r : ℕ) (hr : r + 64 ≤ 2880) (a : Fin 3) : (![0, r, 0] : Fin 3 → ℕ) a + S1x64x256.size a ≤ S1x2880x256.size a := by
  fin_cases a
  · exact Nat.le_refl 1
  · exact hr
  · exact Nat.le_refl 256

/-- The piece lies within the slot. -/
theorem inbST (r : ℕ) (hr : r + 64 ≤ 2880) (a : Fin 2) : (![0, r] : Fin 2 → ℕ) a + S256x64.size a ≤ S256x2880.size a := by
  fin_cases a
  · exact Nat.le_refl 256
  · exact hr

/-- A load of a piece. -/
theorem loadT {M : Memref sig .tc .vmem S1x2880x256 .bf16} (hM : M.IsWhole) (x : Vec Ideal S1x2880x256 .bf16) (r : ℕ) (hr : r + 64 ≤ 2880)
    (inb : ∀ a, (![0, r, 0] : Fin 3 → ℕ) a + S1x64x256.size a ≤ S1x2880x256.size a) :
    AtT x (View.readAt (Elt Ideal) M.view (Rect.unit (s := S1x2880x256) ![0, r, 0] S1x64x256.size inb).toLoadRect (hM.unread x)) r hr := by
  intro a b
  refine (hM.readAt_unread x _ _).trans ?_
  unfold lane
  refine congrArg x (funext fun k => Fin.ext ?_)
  refine (ValueKit.rect_emb_unit_val _ _ inb _ k).trans ?_
  fin_cases k
  · rfl
  · rfl
  · exact Nat.zero_add _

/-- The stored codes of a piece are the chunk's. -/
theorem codes_pieceT {M : Memref sig .tc .vmem S1x2880x256 .bf16} (hM : M.IsWhole) (x : Vec Ideal S1x2880x256 .bf16) (r : ℕ) (hr : r + 64 ≤ 2880)
    (h32 : r % 32 = 0) (y : S1x64x256.Idx) :
    pieceCodesT (View.readAt (Elt Ideal) M.view (Rect.unit (s := S1x2880x256) ![0, r, 0] S1x64x256.size (inbT r hr)).toLoadRect (hM.unread x)) y
      = Codes x ((Rect.unit (s := S1x2880x256) ![0, r, 0] S1x64x256.size (inbT r hr)).emb y) := by
  have e1 := ValueKit.rect_emb_unit_val (s := S1x2880x256) ![0, r, 0] S1x64x256.size (inbT r hr) y 1
  have e2 := ValueKit.rect_emb_unit_val (s := S1x2880x256) ![0, r, 0] S1x64x256.size (inbT r hr) y 2
  unfold pieceCodesT Codes
  rw [flatT_apply]
  refine ((loadT hM x r hr (inbT r hr)).codes h32 _ _ (y 2 : Fin 256) ((Rect.unit (s := S1x2880x256) ![0, r, 0] S1x64x256.size (inbT r hr)).emb y 1) ?_).trans ?_
  · refine e1.trans ?_
    show r + (y 1).val = r + ((y 1).val / 32 * 32 + (y 1).val % 32)
    omega
  · refine congrArg (fun p : Fin 256 => rowCode (by decide) (lane x p) _) (Fin.ext ?_)
    exact (e2.trans (Nat.zero_add _)).symm

/-- The stored values of a piece are the chunk's. -/
theorem wide_pieceT {M : Memref sig .tc .vmem S1x2880x256 .bf16} (hM : M.IsWhole) (x : Vec Ideal S1x2880x256 .bf16) (r : ℕ) (hr : r + 64 ≤ 2880)
    (h32 : r % 32 = 0) (y : S256x64.Idx) :
    pieceWideT (View.readAt (Elt Ideal) M.view (Rect.unit (s := S1x2880x256) ![0, r, 0] S1x64x256.size (inbT r hr)).toLoadRect (hM.unread x)) y
      = Wide x ((Rect.unit (s := S256x2880) ![0, r] S256x64.size (inbST r hr)).emb y) := by
  have e0 := ValueKit.rect_emb_unit_val (s := S256x2880) ![0, r] S256x64.size (inbST r hr) y 0
  have e1 := ValueKit.rect_emb_unit_val (s := S256x2880) ![0, r] S256x64.size (inbST r hr) y 1
  unfold pieceWideT Wide
  rw [turnT_apply]
  refine ((loadT hM x r hr (inbT r hr)).wide h32 _ _ (y 0 : Fin 256) ((Rect.unit (s := S256x2880) ![0, r] S256x64.size (inbST r hr)).emb y 1) ?_).trans ?_
  · refine e1.trans ?_
    show r + (y 1).val = r + ((y 1).val / 32 * 32 + (y 1).val % 32)
    omega
  · refine congrArg (fun p : Fin 256 => rowWide (by decide) (lane x p) _) (Fin.ext ?_)
    exact (e0.trans (Nat.zero_add _)).symm

end Cert.YKernelIdeal.Y

end
-- ==== Proof.YStack.lean ====
/- The stack of the pieces' exponents, read at an index. -/
module

public import proofs.«01_k».proof.Proof.YQ
public import proofs.«01_k».proof.Proof.Quant
public import Idealize.ShloMosaic.Lib.WholeRead
public import Idealize.ShloMosaic.Lib.Pipeline.ValueKit.Geometry

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Cert.Quant

/-! ## The exponents, stored once -/

/-- The stored word at an index is the low byte of the word before it. -/
theorem flat8_apply (v : IVec S90x256 32) (z : Fin 1) (n : Fin 90) (a : Fin 256) :
    shapeCast S1x90x256 (trunci 8 v natLt_8_32 : IVec S90x256 8) shapeCasts_S90x256_S1x90x256 (ix3 z n a) = BitVec.setWidth 8 (v (ix2 n a)) := by
  pointwise []

/-- A stack of rows read in a piece of four rows, whose place is known. -/
theorem cat_at4 (xs : List ((s : Shape) × (s.Idx → BitVec 32))) (h : Shape.Concatenates (xs.map (·.1)) S90x256 0) (f : Fin 90 → BitVec 32) (n : Fin 90) (a : Fin 256)
    (shapes : List Shape) (hs : xs.map (·.1) = shapes) (k : ℕ) (b : IVec S4x256 32) (hb : xs[k]? = some ⟨S4x256, b⟩) (pre : ℕ)
    (hpre : ((shapes.take k).map fun s => if h : s.rank = S90x256.rank then s.size ((0 : Fin S90x256.rank).cast h.symm) else 0).sum = pre) (hp : pre + 4 ≤ 90)
    (hf : ∀ g : Fin 4, b (ix2 g a) = f ⟨pre + g.val, by omega⟩) (lo : pre ≤ n.val) (hi : n.val < pre + 4) :
    concatenate S90x256 0 xs h (ix2 n a) = f n := by
  obtain ⟨hk, hb'⟩ := List.getElem?_eq_some_iff.mp hb
  subst hs
  rw [← List.map_take] at hpre
  refine (concatenate_apply_piece 0 xs h _ k hk S4x256 b hb' rfl pre hpre (ix2 (⟨n.val - pre, by omega⟩ : Fin 4) a) ?_ ?_).trans ?_
  · intro c hc
    fin_cases c
    · exact absurd rfl hc
    · rfl
  · show pre + (n.val - pre) = n.val
    omega
  · refine (hf _).trans (congrArg f (Fin.ext ?_))
    show pre + (n.val - pre) = n.val
    omega

/-- Likewise in a piece of two rows. -/
theorem cat_at2 (xs : List ((s : Shape) × (s.Idx → BitVec 32))) (h : Shape.Concatenates (xs.map (·.1)) S90x256 0) (f : Fin 90 → BitVec 32) (n : Fin 90) (a : Fin 256)
    (shapes : List Shape) (hs : xs.map (·.1) = shapes) (k : ℕ) (b : IVec S2x256 32) (hb : xs[k]? = some ⟨S2x256, b⟩) (pre : ℕ)
    (hpre : ((shapes.take k).map fun s => if h : s.rank = S90x256.rank then s.size ((0 : Fin S90x256.rank).cast h.symm) else 0).sum = pre) (hp : pre + 2 ≤ 90)
    (hf : ∀ g : Fin 2, b (ix2 g a) = f ⟨pre + g.val, by omega⟩) (lo : pre ≤ n.val) (hi : n.val < pre + 2) :
    concatenate S90x256 0 xs h (ix2 n a) = f n := by
  obtain ⟨hk, hb'⟩ := List.getElem?_eq_some_iff.mp hb
  subst hs
  rw [← List.map_take] at hpre
  refine (concatenate_apply_piece 0 xs h _ k hk S2x256 b hb' rfl pre hpre (ix2 (⟨n.val - pre, by omega⟩ : Fin 2) a) ?_ ?_).trans ?_
  · intro c hc
    fin_cases c
    · exact absurd rfl hc
    · rfl
  · show pre + (n.val - pre) = n.val
    omega
  · refine (hf _).trans (congrArg f (Fin.ext ?_))
    show pre + (n.val - pre) = n.val
    omega

/-- The shapes of the pieces stacked. -/
abbrev pieceShapes : List Shape :=
  [S4x256, S4x256, S4x256, S4x256, S4x256, S4x256, S4x256, S4x256, S4x256, S4x256, S4x256, S4x256, S4x256, S4x256, S4x256, S4x256, S4x256, S4x256, S4x256, S4x256, S4x256, S4x256, S2x256]

/-- A piece of four rows holds the values from a place on. -/
def Rows4 (b : IVec S4x256 32) (f : Fin 90 → BitVec 32) (a : Fin 256) (pre : ℕ) (hp : pre + 4 ≤ 90) : Prop :=
  ∀ g : Fin 4, b (ix2 g a) = f ⟨pre + g.val, by omega⟩

/-- A piece of two rows does. -/
def Rows2 (b : IVec S2x256 32) (f : Fin 90 → BitVec 32) (a : Fin 256) (pre : ℕ) (hp : pre + 2 ≤ 90) : Prop :=
  ∀ g : Fin 2, b (ix2 g a) = f ⟨pre + g.val, by omega⟩

/-- The exponents as stored, from those of every piece. -/
theorem all_apply (b0 b1 b2 b3 b4 b5 b6 b7 b8 b9 b10 b11 b12 b13 b14 b15 b16 b17 b18 b19 b20 b21 : IVec S4x256 32) (b22 : IVec S2x256 32) (f : Fin 90 → BitVec 32) (a : Fin 256)
    (h0 : Rows4 b0 f a 0 (Nat.le_of_ble_eq_true rfl))
    (h1 : Rows4 b1 f a 4 (Nat.le_of_ble_eq_true rfl))
    (h2 : Rows4 b2 f a 8 (Nat.le_of_ble_eq_true rfl))
    (h3 : Rows4 b3 f a 12 (Nat.le_of_ble_eq_true rfl))
    (h4 : Rows4 b4 f a 16 (Nat.le_of_ble_eq_true rfl))
    (h5 : Rows4 b5 f a 20 (Nat.le_of_ble_eq_true rfl))
    (h6 : Rows4 b6 f a 24 (Nat.le_of_ble_eq_true rfl))
    (h7 : Rows4 b7 f a 28 (Nat.le_of_ble_eq_true rfl))
    (h8 : Rows4 b8 f a 32 (Nat.le_of_ble_eq_true rfl))
    (h9 : Rows4 b9 f a 36 (Nat.le_of_ble_eq_true rfl))
    (h10 : Rows4 b10 f a 40 (Nat.le_of_ble_eq_true rfl))
    (h11 : Rows4 b11 f a 44 (Nat.le_of_ble_eq_true rfl))
    (h12 : Rows4 b12 f a 48 (Nat.le_of_ble_eq_true rfl))
    (h13 : Rows4 b13 f a 52 (Nat.le_of_ble_eq_true rfl))
    (h14 : Rows4 b14 f a 56 (Nat.le_of_ble_eq_true rfl))
    (h15 : Rows4 b15 f a 60 (Nat.le_of_ble_eq_true rfl))
    (h16 : Rows4 b16 f a 64 (Nat.le_of_ble_eq_true rfl))
    (h17 : Rows4 b17 f a 68 (Nat.le_of_ble_eq_true rfl))
    (h18 : Rows4 b18 f a 72 (Nat.le_of_ble_eq_true rfl))
    (h19 : Rows4 b19 f a 76 (Nat.le_of_ble_eq_true rfl))
    (h20 : Rows4 b20 f a 80 (Nat.le_of_ble_eq_true rfl))
    (h21 : Rows4 b21 f a 84 (Nat.le_of_ble_eq_true rfl))
    (h22 : Rows2 b22 f a 88 (Nat.le_of_ble_eq_true rfl))
    (z : Fin 1) (n : Fin 90) : allBytes b0 b1 b2 b3 b4 b5 b6 b7 b8 b9 b10 b11 b12 b13 b14 b15 b16 b17 b18 b19 b20 b21 b22 (ix3 z n a) = BitVec.setWidth 8 (f n) := by
  unfold allBytes
  refine (flat8_apply _ z n a).trans (congrArg (BitVec.setWidth 8) ?_)
  by_cases c0 : n.val < 4
  · refine cat_at4 _ _ f n a pieceShapes rfl 0 b0 rfl 0 ?_ (Nat.le_of_ble_eq_true rfl) h0 (Nat.zero_le _) c0
    decide
  by_cases c1 : n.val < 8
  · refine cat_at4 _ _ f n a pieceShapes rfl 1 b1 rfl 4 ?_ (Nat.le_of_ble_eq_true rfl) h1 (Nat.le_of_not_lt c0) c1
    decide
  by_cases c2 : n.val < 12
  · refine cat_at4 _ _ f n a pieceShapes rfl 2 b2 rfl 8 ?_ (Nat.le_of_ble_eq_true rfl) h2 (Nat.le_of_not_lt c1) c2
    decide
  by_cases c3 : n.val < 16
  · refine cat_at4 _ _ f n a pieceShapes rfl 3 b3 rfl 12 ?_ (Nat.le_of_ble_eq_true rfl) h3 (Nat.le_of_not_lt c2) c3
    decide
  by_cases c4 : n.val < 20
  · refine cat_at4 _ _ f n a pieceShapes rfl 4 b4 rfl 16 ?_ (Nat.le_of_ble_eq_true rfl) h4 (Nat.le_of_not_lt c3) c4
    decide
  by_cases c5 : n.val < 24
  · refine cat_at4 _ _ f n a pieceShapes rfl 5 b5 rfl 20 ?_ (Nat.le_of_ble_eq_true rfl) h5 (Nat.le_of_not_lt c4) c5
    decide
  by_cases c6 : n.val < 28
  · refine cat_at4 _ _ f n a pieceShapes rfl 6 b6 rfl 24 ?_ (Nat.le_of_ble_eq_true rfl) h6 (Nat.le_of_not_lt c5) c6
    decide
  by_cases c7 : n.val < 32
  · refine cat_at4 _ _ f n a pieceShapes rfl 7 b7 rfl 28 ?_ (Nat.le_of_ble_eq_true rfl) h7 (Nat.le_of_not_lt c6) c7
    decide
  by_cases c8 : n.val < 36
  · refine cat_at4 _ _ f n a pieceShapes rfl 8 b8 rfl 32 ?_ (Nat.le_of_ble_eq_true rfl) h8 (Nat.le_of_not_lt c7) c8
    decide
  by_cases c9 : n.val < 40
  · refine cat_at4 _ _ f n a pieceShapes rfl 9 b9 rfl 36 ?_ (Nat.le_of_ble_eq_true rfl) h9 (Nat.le_of_not_lt c8) c9
    decide
  by_cases c10 : n.val < 44
  · refine cat_at4 _ _ f n a pieceShapes rfl 10 b10 rfl 40 ?_ (Nat.le_of_ble_eq_true rfl) h10 (Nat.le_of_not_lt c9) c10
    decide
  by_cases c11 : n.val < 48
  · refine cat_at4 _ _ f n a pieceShapes rfl 11 b11 rfl 44 ?_ (Nat.le_of_ble_eq_true rfl) h11 (Nat.le_of_not_lt c10) c11
    decide
  by_cases c12 : n.val < 52
  · refine cat_at4 _ _ f n a pieceShapes rfl 12 b12 rfl 48 ?_ (Nat.le_of_ble_eq_true rfl) h12 (Nat.le_of_not_lt c11) c12
    decide
  by_cases c13 : n.val < 56
  · refine cat_at4 _ _ f n a pieceShapes rfl 13 b13 rfl 52 ?_ (Nat.le_of_ble_eq_true rfl) h13 (Nat.le_of_not_lt c12) c13
    decide
  by_cases c14 : n.val < 60
  · refine cat_at4 _ _ f n a pieceShapes rfl 14 b14 rfl 56 ?_ (Nat.le_of_ble_eq_true rfl) h14 (Nat.le_of_not_lt c13) c14
    decide
  by_cases c15 : n.val < 64
  · refine cat_at4 _ _ f n a pieceShapes rfl 15 b15 rfl 60 ?_ (Nat.le_of_ble_eq_true rfl) h15 (Nat.le_of_not_lt c14) c15
    decide
  by_cases c16 : n.val < 68
  · refine cat_at4 _ _ f n a pieceShapes rfl 16 b16 rfl 64 ?_ (Nat.le_of_ble_eq_true rfl) h16 (Nat.le_of_not_lt c15) c16
    decide
  by_cases c17 : n.val < 72
  · refine cat_at4 _ _ f n a pieceShapes rfl 17 b17 rfl 68 ?_ (Nat.le_of_ble_eq_true rfl) h17 (Nat.le_of_not_lt c16) c17
    decide
  by_cases c18 : n.val < 76
  · refine cat_at4 _ _ f n a pieceShapes rfl 18 b18 rfl 72 ?_ (Nat.le_of_ble_eq_true rfl) h18 (Nat.le_of_not_lt c17) c18
    decide
  by_cases c19 : n.val < 80
  · refine cat_at4 _ _ f n a pieceShapes rfl 19 b19 rfl 76 ?_ (Nat.le_of_ble_eq_true rfl) h19 (Nat.le_of_not_lt c18) c19
    decide
  by_cases c20 : n.val < 84
  · refine cat_at4 _ _ f n a pieceShapes rfl 20 b20 rfl 80 ?_ (Nat.le_of_ble_eq_true rfl) h20 (Nat.le_of_not_lt c19) c20
    decide
  by_cases c21 : n.val < 88
  · refine cat_at4 _ _ f n a pieceShapes rfl 21 b21 rfl 84 ?_ (Nat.le_of_ble_eq_true rfl) h21 (Nat.le_of_not_lt c20) c21
    decide
  refine cat_at2 _ _ f n a pieceShapes rfl 22 b22 rfl 88 ?_ (Nat.le_of_ble_eq_true rfl) h22 (Nat.le_of_not_lt c21) n.isLt
  decide

end Cert.YKernelIdeal.Y

end
-- ==== Proof.YBytes.lean ====
/- The exponents stored are the chunk's. -/
module

public import proofs.«01_k».proof.Proof.YPiece
public import proofs.«01_k».proof.Proof.YStack

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Cert.Quant

/-- The exponents stored are the chunk's. -/
theorem bytes_piece {M : Memref sig .tc .vmem S1x2880x256 .bf16} (hM : M.IsWhole) (x : Vec Ideal S1x2880x256 .bf16) (y : S1x90x256.Idx) :
    allBytes
      (pieceBytesL (View.readAt (Elt Ideal) M.view (Rect.unit (s := S1x2880x256) ![0, 0, 0] S1x128x256.size (inbL 0 (by omega))).toLoadRect (hM.unread x)))
      (pieceBytesL (View.readAt (Elt Ideal) M.view (Rect.unit (s := S1x2880x256) ![0, 128, 0] S1x128x256.size (inbL 128 (by omega))).toLoadRect (hM.unread x)))
      (pieceBytesL (View.readAt (Elt Ideal) M.view (Rect.unit (s := S1x2880x256) ![0, 256, 0] S1x128x256.size (inbL 256 (by omega))).toLoadRect (hM.unread x)))
      (pieceBytesL (View.readAt (Elt Ideal) M.view (Rect.unit (s := S1x2880x256) ![0, 384, 0] S1x128x256.size (inbL 384 (by omega))).toLoadRect (hM.unread x)))
      (pieceBytesL (View.readAt (Elt Ideal) M.view (Rect.unit (s := S1x2880x256) ![0, 512, 0] S1x128x256.size (inbL 512 (by omega))).toLoadRect (hM.unread x)))
      (pieceBytesL (View.readAt (Elt Ideal) M.view (Rect.unit (s := S1x2880x256) ![0, 640, 0] S1x128x256.size (inbL 640 (by omega))).toLoadRect (hM.unread x)))
      (pieceBytesL (View.readAt (Elt Ideal) M.view (Rect.unit (s := S1x2880x256) ![0, 768, 0] S1x128x256.size (inbL 768 (by omega))).toLoadRect (hM.unread x)))
      (pieceBytesL (View.readAt (Elt Ideal) M.view (Rect.unit (s := S1x2880x256) ![0, 896, 0] S1x128x256.size (inbL 896 (by omega))).toLoadRect (hM.unread x)))
      (pieceBytesL (View.readAt (Elt Ideal) M.view (Rect.unit (s := S1x2880x256) ![0, 1024, 0] S1x128x256.size (inbL 1024 (by omega))).toLoadRect (hM.unread x)))
      (pieceBytesL (View.readAt (Elt Ideal) M.view (Rect.unit (s := S1x2880x256) ![0, 1152, 0] S1x128x256.size (inbL 1152 (by omega))).toLoadRect (hM.unread x)))
      (pieceBytesL (View.readAt (Elt Ideal) M.view (Rect.unit (s := S1x2880x256) ![0, 1280, 0] S1x128x256.size (inbL 1280 (by omega))).toLoadRect (hM.unread x)))
      (pieceBytesL (View.readAt (Elt Ideal) M.view (Rect.unit (s := S1x2880x256) ![0, 1408, 0] S1x128x256.size (inbL 1408 (by omega))).toLoadRect (hM.unread x)))
      (pieceBytesL (View.readAt (Elt Ideal) M.view (Rect.unit (s := S1x2880x256) ![0, 1536, 0] S1x128x256.size (inbL 1536 (by omega))).toLoadRect (hM.unread x)))
      (pieceBytesL (View.readAt (Elt Ideal) M.view (Rect.unit (s := S1x2880x256) ![0, 1664, 0] S1x128x256.size (inbL 1664 (by omega))).toLoadRect (hM.unread x)))
      (pieceBytesL (View.readAt (Elt Ideal) M.view (Rect.unit (s := S1x2880x256) ![0, 1792, 0] S1x128x256.size (inbL 1792 (by omega))).toLoadRect (hM.unread x)))
      (pieceBytesL (View.readAt (Elt Ideal) M.view (Rect.unit (s := S1x2880x256) ![0, 1920, 0] S1x128x256.size (inbL 1920 (by omega))).toLoadRect (hM.unread x)))
      (pieceBytesL (View.readAt (Elt Ideal) M.view (Rect.unit (s := S1x2880x256) ![0, 2048, 0] S1x128x256.size (inbL 2048 (by omega))).toLoadRect (hM.unread x)))
      (pieceBytesL (View.readAt (Elt Ideal) M.view (Rect.unit (s := S1x2880x256) ![0, 2176, 0] S1x128x256.size (inbL 2176 (by omega))).toLoadRect (hM.unread x)))
      (pieceBytesL (View.readAt (Elt Ideal) M.view (Rect.unit (s := S1x2880x256) ![0, 2304, 0] S1x128x256.size (inbL 2304 (by omega))).toLoadRect (hM.unread x)))
      (pieceBytesL (View.readAt (Elt Ideal) M.view (Rect.unit (s := S1x2880x256) ![0, 2432, 0] S1x128x256.size (inbL 2432 (by omega))).toLoadRect (hM.unread x)))
      (pieceBytesL (View.readAt (Elt Ideal) M.view (Rect.unit (s := S1x2880x256) ![0, 2560, 0] S1x128x256.size (inbL 2560 (by omega))).toLoadRect (hM.unread x)))
      (pieceBytesL (View.readAt (Elt Ideal) M.view (Rect.unit (s := S1x2880x256) ![0, 2688, 0] S1x128x256.size (inbL 2688 (by omega))).toLoadRect (hM.unread x)))
      (pieceBytesT (View.readAt (Elt Ideal) M.view (Rect.unit (s := S1x2880x256) ![0, 2816, 0] S1x64x256.size (inbT 2816 (by omega))).toLoadRect (hM.unread x))) y
      = Bytes x y := by
  have HL : ∀ (r : ℕ) (hr : r + 128 ≤ 2880) (h32 : r % 32 = 0) (g : Fin 4),
      pieceBytesL (View.readAt (Elt Ideal) M.view (Rect.unit (s := S1x2880x256) ![0, r, 0] S1x128x256.size (inbL r hr)).toLoadRect (hM.unread x)) (ix2 g (y 2 : Fin 256))
      = (fun n : Fin 90 => byte (Cert.Quant.amp (blk (lane x (y 2 : Fin 256)) n.val (by omega)))) ⟨r / 32 + g.val, by omega⟩ :=
    fun r hr h32 g => (loadL hM x r hr (inbL r hr)).bytes h32 g (y 2 : Fin 256)
  have HT : ∀ (r : ℕ) (hr : r + 64 ≤ 2880) (h32 : r % 32 = 0) (g : Fin 2),
      pieceBytesT (View.readAt (Elt Ideal) M.view (Rect.unit (s := S1x2880x256) ![0, r, 0] S1x64x256.size (inbT r hr)).toLoadRect (hM.unread x)) (ix2 g (y 2 : Fin 256))
      = (fun n : Fin 90 => byte (Cert.Quant.amp (blk (lane x (y 2 : Fin 256)) n.val (by omega)))) ⟨r / 32 + g.val, by omega⟩ :=
    fun r hr h32 g => (loadT hM x r hr (inbT r hr)).bytes h32 g (y 2 : Fin 256)
  rw [eq_ix3 y]
  exact all_apply _ _ _ _ _ _ _ _ _ _ _ _ _ _ _ _ _ _ _ _ _ _ _ (fun n : Fin 90 => byte (Cert.Quant.amp (blk (lane x (y 2 : Fin 256)) n.val (by omega)))) (y 2 : Fin 256)
    (HL 0 (by omega) rfl) (HL 128 (by omega) rfl) (HL 256 (by omega) rfl) (HL 384 (by omega) rfl) (HL 512 (by omega) rfl) (HL 640 (by omega) rfl) (HL 768 (by omega) rfl) (HL 896 (by omega) rfl) (HL 1024 (by omega) rfl) (HL 1152 (by omega) rfl) (HL 1280 (by omega) rfl) (HL 1408 (by omega) rfl) (HL 1536 (by omega) rfl) (HL 1664 (by omega) rfl) (HL 1792 (by omega) rfl) (HL 1920 (by omega) rfl) (HL 2048 (by omega) rfl) (HL 2176 (by omega) rfl) (HL 2304 (by omega) rfl) (HL 2432 (by omega) rfl) (HL 2560 (by omega) rfl) (HL 2688 (by omega) rfl) (HT 2816 (by omega) rfl) (y 0 : Fin 1) (y 1 : Fin 90)

end Cert.YKernelIdeal.Y

end
-- ==== Proof.YDot.lean ====
/- A column block of the product as stored. -/
module

public import proofs.«01_k».proof.Proof.YPiece

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Cert.Quant

/-! ## The product -/

/-- A block of the product, at an index. -/
theorem dot_apply (a : Vec Ideal S256x2880 .bf16) (b : Vec Ideal S2880x512 .bf16) (j : S1x256x512.Idx) :
    dotCols a b j = ∑ n : Fin 2880, a (ix2 (j 1 : Fin 256) n) * b (ix2 n (j 2 : Fin 512)) := by
  pointwise [dotCols]

/-- The piece lies within its array. -/
theorem inbP (q : ℕ) (hq : q + 512 ≤ 4096) (a : Fin 3) : (![0, 0, q] : Fin 3 → ℕ) a + S1x256x512.size a ≤ S1x256x4096.size a := by
  fin_cases a
  · exact Nat.le_refl 1
  · exact Nat.le_refl 256
  · exact hq

/-- The piece lies within its array. -/
theorem inbW (q : ℕ) (hq : q + 512 ≤ 4096) (a : Fin 2) : (![0, q] : Fin 2 → ℕ) a + S2880x512.size a ≤ S2880x4096.size a := by
  fin_cases a
  · exact Nat.le_refl 2880
  · exact hq

/-- The stored block of the product is the chunk's. -/
theorem dot_piece {M : Memref sig .tc .vmem S2880x4096 .bf16} (hM : M.IsWhole) (w : Vec Ideal S2880x4096 .bf16) (a a' : Vec Ideal S256x2880 .bf16) (ha : a = a') (q : ℕ) (hq : q + 512 ≤ 4096) (y : S1x256x512.Idx) :
    dotCols a (View.readAt (Elt Ideal) M.view (Rect.unit (s := S2880x4096) ![0, q] S2880x512.size (inbW q hq)).toLoadRect (hM.unread w)) y
      = Prod w a' ((Rect.unit (s := S1x256x4096) ![0, 0, q] S1x256x512.size (inbP q hq)).emb y) := by
  subst ha
  unfold Prod
  rw [dot_apply]
  refine Finset.sum_congr rfl fun n _ => ?_
  rw [Memref.IsWhole.readAt_unread hM w]
  refine congrArg₂ (· * ·) (congrArg a ?_) (congrArg w (funext fun k => Fin.ext ?_))
  · refine congrArg (fun p : Fin 256 => ix2 p n) (Fin.ext ?_)
    exact ((ValueKit.rect_emb_unit_val (s := S1x256x4096) ![0, 0, q] S1x256x512.size (inbP q hq) y 1).trans (Nat.zero_add _)).symm
  · refine (ValueKit.rect_emb_unit_val _ _ (inbW q hq) _ k).trans ?_
    fin_cases k
    · exact Nat.zero_add _
    · exact (ValueKit.rect_emb_unit_val (s := S1x256x4096) ![0, 0, q] S1x256x512.size (inbP q hq) y 2).symm

end Cert.YKernelIdeal.Y

end
-- ==== Proof.YOut.lean ====
/- Whole loads and stores of the y kernel's body, over the reals. -/
module

public import proofs.«01_k».proof.Proof.YBytes
public import proofs.«01_k».proof.Proof.YDot

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic

/-- A slot loaded whole. -/
theorem slot_load {M : Memref sig .tc .vmem S256x2880 .bf16} (hM : M.IsWhole) (xs : Vec Ideal S256x2880 .bf16)
    (inb : ∀ a, (![0, 0] : Fin 2 → ℕ) a + S256x2880.size a ≤ S256x2880.size a) :
    View.readAt (Elt Ideal) M.view (Rect.unit (s := S256x2880) ![0, 0] S256x2880.size inb).toLoadRect (hM.unread xs) = xs := by
  funext y
  refine (hM.readAt_unread xs _ _).trans (congrArg xs (funext fun k => Fin.ext ?_))
  refine (ValueKit.rect_emb_unit_val (s := S256x2880) ![0, 0] S256x2880.size inb y k).trans ?_
  fin_cases k <;> exact Nat.zero_add _

/-- The exponents' window stored whole: the store moves no index. -/
theorem emb_whole (inb : ∀ a, (![0, 0, 0] : Fin 3 → ℕ) a + S1x90x256.size a ≤ S1x90x256.size a) (y : S1x90x256.Idx) :
    (Rect.unit (s := S1x90x256) ![0, 0, 0] S1x90x256.size inb).emb y = y := by
  refine funext fun k => Fin.ext ?_
  refine (ValueKit.rect_emb_unit_val (s := S1x90x256) ![0, 0, 0] S1x90x256.size inb y k).trans ?_
  fin_cases k <;> exact Nat.zero_add _

end Cert.YKernelIdeal.Y

end
-- ==== Proof.YKit.lean ====
/- What the runs of the y kernel are stated over: its branch conditions in closed form, where its windows are idle, the memrefs of a point. -/
module

public import proofs.«01_k».proof.Proof.Gen.YKernelIdeal.Skeleton
public import proofs.«01_k».proof.Proof.Gen.YKernelIdeal.Launch
public import proofs.«01_k».proof.Proof.Gen.YKernelIdeal.Points
public import proofs.«01_k».proof.Proof.Gen.YKernelIdeal.Frame

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The step that only quantises (the first point). -/
abbrev condA (i : grid0.Coords) : Prop := k0_cond1 i = 1#1
/-- An odd step: multiplies slot a, fills slot b. -/
abbrev condB (i : grid0.Coords) : Prop := k0_cond2 i = 1#1
/-- An even step past the first: multiplies slot b, fills slot a. -/
abbrev condC (i : grid0.Coords) : Prop := k0_cond3 i = 1#1

/-- The first branch runs at the first step alone. -/
theorem hcondA : ∀ t : Fin cfg0.N, condA (grid0.coords t) ↔ t.val = 0 :=
  (by decide +kernel : ∀ t : Fin grid0.N, condA (grid0.coords t) ↔ t.val = 0)
/-- The second branch runs at the odd steps. -/
theorem hcondB : ∀ t : Fin cfg0.N, condB (grid0.coords t) ↔ t.val % 2 = 1 :=
  (by decide +kernel : ∀ t : Fin grid0.N, condB (grid0.coords t) ↔ t.val % 2 = 1)
/-- The third branch runs at the even steps after the first. -/
theorem hcondC : ∀ t : Fin cfg0.N, condC (grid0.coords t) ↔ (t.val % 2 = 0 ∧ t.val ≠ 0) :=
  (by decide +kernel : ∀ t : Fin grid0.N, condC (grid0.coords t) ↔ (t.val % 2 = 0 ∧ t.val ≠ 0))

/-! ## Where the windows are idle: the product's window at the first point only -/

/-- The window of the first input is in use. -/
theorem liveAt_0 : ∀ t : Fin cfg0.N, cfg0.idle 0 (grid0.coords t) = false := fun _ => rfl
/-- The window of the weights is in use. -/
theorem liveAt_1 : ∀ t : Fin cfg0.N, cfg0.idle 1 (grid0.coords t) = false := fun _ => rfl
/-- The product's window is idle at the first step. -/
theorem idleAt_2 : ∀ t : Fin cfg0.N, t.val = 0 → cfg0.idle 2 (grid0.coords t) = true := by decide +kernel
/-- The window of the product is in use. -/
theorem liveAt_2 : ∀ t : Fin cfg0.N, t.val ≠ 0 → cfg0.idle 2 (grid0.coords t) = false := by decide +kernel
/-- The window of the codes is in use. -/
theorem liveAt_3 : ∀ t : Fin cfg0.N, cfg0.idle 3 (grid0.coords t) = false := by decide +kernel
/-- The window of the exponents is in use. -/
theorem liveAt_4 : ∀ t : Fin cfg0.N, cfg0.idle 4 (grid0.coords t) = false := by decide +kernel
/-- The product's window is not written back at the first step. -/
theorem noflush_2 : ∀ t : Fin cfg0.N, t.val = 0 → (cfg0.win 2).flush t = false := by decide +kernel

/-! ## The memrefs the body is called with -/

/-- Each window's current staging memref at point `t`, spelled as the pipeline passes it (`bodyAt0`), and its wholeness. -/
abbrev ms0_0 (t : Fin cfg0.N) : Memref sig .tc .vmem S1x2880x256 .bf16 := win0_0.stage (cfg0.slots t 0)
/-- The staged window of the first input is whole. -/
abbrev hs0_0 (t : Fin cfg0.N) : (ms0_0 t).IsWhole := hstage0_0 ((cfg0.slots t 0).cast nbuf0_0)
/-- The staged window of the weights. -/
abbrev ms0_1 (t : Fin cfg0.N) : Memref sig .tc .vmem S2880x4096 .bf16 := win0_1.stage (cfg0.slots t 1)
/-- The staged window of the weights is whole. -/
abbrev hs0_1 (t : Fin cfg0.N) : (ms0_1 t).IsWhole := hstage0_1 ((cfg0.slots t 1).cast nbuf0_1)
/-- The staged window of the product. -/
abbrev ms0_2 (t : Fin cfg0.N) : Memref sig .tc .vmem S1x256x4096 .bf16 := win0_2.stage (cfg0.slots t 2)
/-- The staged window of the product is whole. -/
abbrev hs0_2 (t : Fin cfg0.N) : (ms0_2 t).IsWhole := hstage0_2 ((cfg0.slots t 2).cast nbuf0_2)
/-- The staged window of the codes. -/
abbrev ms0_3 (t : Fin cfg0.N) : Memref sig .tc .vmem S1x2880x256 .fp8e4m3 := win0_3.stage (cfg0.slots t 3)
/-- The staged window of the codes is whole. -/
abbrev hs0_3 (t : Fin cfg0.N) : (ms0_3 t).IsWhole := hstage0_3 ((cfg0.slots t 3).cast nbuf0_3)
/-- The staged window of the exponents. -/
abbrev ms0_4 (t : Fin cfg0.N) : Memref sig .tc .vmem S1x90x256 .i8 := win0_4.stage (cfg0.slots t 4)
/-- The staged window of the exponents is whole. -/
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x2880 .bf16 := Memref.whole cc0_scratch0
/-- The second slot. -/
abbrev scM0_1 : Memref sig .tc .vmem S256x2880 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- One staging buffer of each output window, through which its contents are stated. -/
abbrev VO2 : View sig .tc .vmem S1x256x4096 .bf16 := (Memref.whole cc0_stg2_0 : Memref sig .tc .vmem S1x256x4096 .bf16).view
/-- A view of the codes' window. -/
abbrev VO3 : View sig .tc .vmem S1x2880x256 .fp8e4m3 := (Memref.whole cc0_stg3_0 : Memref sig .tc .vmem S1x2880x256 .fp8e4m3).view
/-- A view of the exponents' window. -/
abbrev VO4 : View sig .tc .vmem S1x90x256 .i8 := (Memref.whole cc0_stg4_0 : Memref sig .tc .vmem S1x90x256 .i8).view
/-- Slot a and slot b, as views. -/
abbrev VSa : View sig .tc .vmem S256x2880 .bf16 := scM0_0.view
/-- A view of the second slot. -/
abbrev VSb : View sig .tc .vmem S256x2880 .bf16 := scM0_1.view

end Cert.YKernelIdeal.Y

end
-- ==== Proof.YRunA.lean ====
/- The y kernel's body run once, in one of its three cases: the pieces its stores leave are found by the run. -/
module

public import proofs.«01_k».proof.Proof.YKit

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2400000 in
/-- The first point: only quantises, into slot a. What the stores leave, as pieces (last first), with the proof that the body runs to a continuation holding them. -/
noncomputable def runA (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : condA i) (hc1 : ¬condB i) (hc2 : ¬condC i)
    (x0 : Vec F S1x2880x256 .bf16) (x1 : Vec F S2880x4096 .bf16) (x2 : Vec F S1x256x4096 .bf16) :
    Σ' (L3 : List (View.Piece (Elt F) S1x2880x256 .fp8e4m3)), Σ' (L4 : List (View.Piece (Elt F) S1x90x256 .i8)), { LS : List (View.Piece (Elt F) S256x2880 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS) ∗ (∃ d, owns (c : Thread nD τ) arg7 fullShare d)) -∗ K ⟨⟩))
          ⊢ wp frame (wpE (defs₀ (F := F)) Variants.none c none) E (cc0_y_call i arg1 harg1 arg2 harg2 arg3 harg3 arg4 harg4 arg5 harg5 arg6 harg6 arg7 harg7) K } := by
  refine ⟨?_, ?_, ?_, fun E K => ?run⟩
  case run =>
    simp only [cc0_y_call_eq_skeleton]; unfold cc0_y_call_skel
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _, _; isplitr; swap; · iexact HS1
    ipureintro; rfl

end Cert.YKernelIdeal.Y

end
-- ==== Proof.YOutA.lean ====
/- What the first point of the y kernel leaves in the windows and the slots, over the reals. -/
module

public import proofs.«01_k».proof.Proof.YOut
public import proofs.«01_k».proof.Proof.YRunA

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic

section

variable (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : condA i) (hc1 : ¬condB i) (hc2 : ¬condC i)
    (x0 : Vec Ideal S1x2880x256 .bf16) (x1 : Vec Ideal S2880x4096 .bf16) (x2 : Vec Ideal S1x256x4096 .bf16)

/-- The first point: the codes' window holds the chunk's codes. -/
theorem outA_3 {κ : Kind} {sp : Space} (v : View sig κ sp S1x2880x256 .fp8e4m3) (f : v.ty.Contents (Elt Ideal)) :
    v.read (Elt Ideal) (v.writes (Elt Ideal) f (runA (F := Ideal) c i arg1 harg1 arg2 harg2 arg3 harg3 arg4 harg4 arg5 harg5 arg6 harg6 arg7 harg7 hc0 hc1 hc2 x0 x1 x2).1) = Codes x0 := by
  have hc := View.cover_of_tiledBy (runA (F := Ideal) c i arg1 harg1 arg2 harg2 arg3 harg3 arg4 harg4 arg5 harg5 arg6 harg6 arg7 harg7 hc0 hc1 hc2 x0 x1 x2).1 S1x64x256.size (by sl_kernel_rfl)
  refine funext fun y => View.read_writes_apply_of_pieces v f _ _ ?_ y (hc y)
  clear hc
  unfold runA
  dsimp only
  sl_unfold_words
  refine List.forall_mem_cons.mpr ⟨fun y => Eq.trans ?_ (codes_pieceT harg1 x0 _ (by decide) (by decide) y), ?_⟩; · rfl
  iterate 22 refine List.forall_mem_cons.mpr ⟨fun y => Eq.trans ?_ (codes_pieceL harg1 x0 _ (by decide) (by decide) y), ?_⟩; · rfl
  exact fun p hp => absurd hp List.not_mem_nil

/-- The first point: the exponents' window holds the chunk's exponents. -/
theorem outA_4 {κ : Kind} {sp : Space} (v : View sig κ sp S1x90x256 .i8) (f : v.ty.Contents (Elt Ideal)) :
    v.read (Elt Ideal) (v.writes (Elt Ideal) f (runA (F := Ideal) c i arg1 harg1 arg2 harg2 arg3 harg3 arg4 harg4 arg5 harg5 arg6 harg6 arg7 harg7 hc0 hc1 hc2 x0 x1 x2).2.1) = Bytes x0 := by
  have hc := View.cover_of_tiledL (runA (F := Ideal) c i arg1 harg1 arg2 harg2 arg3 harg3 arg4 harg4 arg5 harg5 arg6 harg6 arg7 harg7 hc0 hc1 hc2 x0 x1 x2).2.1 S1x90x256.size (by sl_kernel_rfl)
  refine funext fun y => View.read_writes_apply_of_pieces v f _ _ ?_ y (hc y)
  clear hc
  unfold runA
  dsimp only
  sl_unfold_words
  refine List.forall_mem_cons.mpr ⟨fun y => Eq.trans (Eq.trans ?_ (bytes_piece harg1 x0 y)) (congrArg (Bytes x0) (emb_whole inb_S1x90x256_S1x90x256_0_0_0 y).symm), ?_⟩; · rfl
  exact fun p hp => absurd hp List.not_mem_nil

/-- The first point: slot a holds the chunk's values. -/
theorem outA_S {κ : Kind} {sp : Space} (v : View sig κ sp S256x2880 .bf16) (f : v.ty.Contents (Elt Ideal)) :
    v.read (Elt Ideal) (v.writes (Elt Ideal) f (runA (F := Ideal) c i arg1 harg1 arg2 harg2 arg3 harg3 arg4 harg4 arg5 harg5 arg6 harg6 arg7 harg7 hc0 hc1 hc2 x0 x1 x2).2.2.1) = Wide x0 := by
  have hc := View.cover_of_tiledBy (runA (F := Ideal) c i arg1 harg1 arg2 harg2 arg3 harg3 arg4 harg4 arg5 harg5 arg6 harg6 arg7 harg7 hc0 hc1 hc2 x0 x1 x2).2.2.1 S256x64.size (by sl_kernel_rfl)
  refine funext fun y => View.read_writes_apply_of_pieces v f _ _ ?_ y (hc y)
  clear hc
  unfold runA
  dsimp only
  sl_unfold_words
  refine List.forall_mem_cons.mpr ⟨fun y => Eq.trans ?_ (wide_pieceT harg1 x0 _ (by decide) (by decide) y), ?_⟩; · rfl
  iterate 22 refine List.forall_mem_cons.mpr ⟨fun y => Eq.trans ?_ (wide_pieceL harg1 x0 _ (by decide) (by decide) y), ?_⟩; · rfl
  exact fun p hp => absurd hp List.not_mem_nil

end

end Cert.YKernelIdeal.Y

end
-- ==== Proof.YRunB.lean ====
/- The y kernel's body run once, in one of its three cases: the pieces its stores leave are found by the run. -/
module

public import proofs.«01_k».proof.Proof.YKit

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2400000 in
/-- An odd point: multiplies slot a, quantises into slot b. What the stores leave, as pieces (last first), with the proof that the body runs to a continuation holding them. -/
noncomputable def runB (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : ¬condA i) (hc1 : condB i) (hc2 : ¬condC i)
    (x0 : Vec F S1x2880x256 .bf16) (x1 : Vec F S2880x4096 .bf16) (xs : Vec F S256x2880 .bf16) :
    Σ' (L2 : List (View.Piece (Elt F) S1x256x4096 .bf16)), Σ' (L3 : List (View.Piece (Elt F) S1x2880x256 .fp8e4m3)), Σ' (L4 : List (View.Piece (Elt F) S1x90x256 .i8)), { LS : List (View.Piece (Elt F) S256x2880 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d) ∗ (∃ f, arg7.view.loc (c : Thread nD τ) ↦[arg7.view.set]{fullShare} arg7.view.writes (Elt F) f LS)) -∗ K ⟨⟩))
          ⊢ wp frame (wpE (defs₀ (F := F)) Variants.none c none) E (cc0_y_call i arg1 harg1 arg2 harg2 arg3 harg3 arg4 harg4 arg5 harg5 arg6 harg6 arg7 harg7) K } := by
  refine ⟨?_, ?_, ?_, ?_, fun E K => ?run⟩
  case run =>
    simp only [cc0_y_call_eq_skeleton]; unfold cc0_y_call_skel
    rw [k0_part114_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg6.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _, _; isplitr; swap; · iexact HS0
      ipureintro; rfl
    iexists _; iexact HS1

end Cert.YKernelIdeal.Y

end
-- ==== Proof.YOutB.lean ====
/- What an odd point of the y kernel leaves in the windows and the slots, over the reals. -/
module

public import proofs.«01_k».proof.Proof.YOut
public import proofs.«01_k».proof.Proof.YRunB

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic

section

variable (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : ¬condA i) (hc1 : condB i) (hc2 : ¬condC i)
    (x0 : Vec Ideal S1x2880x256 .bf16) (x1 : Vec Ideal S2880x4096 .bf16) (xs : Vec Ideal S256x2880 .bf16)

/-- An odd point: the product's window holds slot a times the weights. -/
theorem outB_2 {κ : Kind} {sp : Space} (v : View sig κ sp S1x256x4096 .bf16) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).1) = Prod x1 xs := by
  have hc := View.cover_of_tiledL (runB (F := Ideal) c i arg1 harg1 arg2 harg2 arg3 harg3 arg4 harg4 arg5 harg5 arg6 harg6 arg7 harg7 hc0 hc1 hc2 x0 x1 xs).1 S1x256x512.size (by sl_kernel_rfl)
  refine funext fun y => View.read_writes_apply_of_pieces v f _ _ ?_ y (hc y)
  clear hc
  unfold runB
  dsimp only
  sl_unfold_words
  iterate 8 refine List.forall_mem_cons.mpr ⟨fun y => Eq.trans ?_ (dot_piece harg2 x1 _ _ (slot_load harg6 xs (by decide)) _ (by decide) y), ?_⟩; · rfl
  exact fun p hp => absurd hp List.not_mem_nil

/-- An odd point: the codes' window holds the chunk's codes. -/
theorem outB_3 {κ : Kind} {sp : Space} (v : View sig κ sp S1x2880x256 .fp8e4m3) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).2.1) = Codes x0 := by
  have hc := View.cover_of_tiledBy (runB (F := Ideal) c i arg1 harg1 arg2 harg2 arg3 harg3 arg4 harg4 arg5 harg5 arg6 harg6 arg7 harg7 hc0 hc1 hc2 x0 x1 xs).2.1 S1x64x256.size (by sl_kernel_rfl)
  refine funext fun y => View.read_writes_apply_of_pieces v f _ _ ?_ y (hc y)
  clear hc
  unfold runB
  dsimp only
  sl_unfold_words
  refine List.forall_mem_cons.mpr ⟨fun y => Eq.trans ?_ (codes_pieceT harg1 x0 _ (by decide) (by decide) y), ?_⟩; · rfl
  iterate 22 refine List.forall_mem_cons.mpr ⟨fun y => Eq.trans ?_ (codes_pieceL harg1 x0 _ (by decide) (by decide) y), ?_⟩; · rfl
  exact fun p hp => absurd hp List.not_mem_nil

/-- An odd point: the exponents' window holds the chunk's exponents. -/
theorem outB_4 {κ : Kind} {sp : Space} (v : View sig κ sp S1x90x256 .i8) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).2.2.1) = Bytes x0 := by
  have hc := View.cover_of_tiledL (runB (F := Ideal) c i arg1 harg1 arg2 harg2 arg3 harg3 arg4 harg4 arg5 harg5 arg6 harg6 arg7 harg7 hc0 hc1 hc2 x0 x1 xs).2.2.1 S1x90x256.size (by sl_kernel_rfl)
  refine funext fun y => View.read_writes_apply_of_pieces v f _ _ ?_ y (hc y)
  clear hc
  unfold runB
  dsimp only
  sl_unfold_words
  refine List.forall_mem_cons.mpr ⟨fun y => Eq.trans (Eq.trans ?_ (bytes_piece harg1 x0 y)) (congrArg (Bytes x0) (emb_whole inb_S1x90x256_S1x90x256_0_0_0 y).symm), ?_⟩; · rfl
  exact fun p hp => absurd hp List.not_mem_nil

/-- An odd point: slot b holds the chunk's values. -/
theorem outB_S {κ : Kind} {sp : Space} (v : View sig κ sp S256x2880 .bf16) (f : v.ty.Contents (Elt Ideal)) :
    v.read (Elt Ideal) (v.writes (Elt Ideal) f (runB (F := Ideal) c i arg1 harg1 arg2 harg2 arg3 harg3 arg4 harg4 arg5 harg5 arg6 harg6 arg7 harg7 hc0 hc1 hc2 x0 x1 xs).2.2.2.1) = Wide x0 := by
  have hc := View.cover_of_tiledBy (runB (F := Ideal) c i arg1 harg1 arg2 harg2 arg3 harg3 arg4 harg4 arg5 harg5 arg6 harg6 arg7 harg7 hc0 hc1 hc2 x0 x1 xs).2.2.2.1 S256x64.size (by sl_kernel_rfl)
  refine funext fun y => View.read_writes_apply_of_pieces v f _ _ ?_ y (hc y)
  clear hc
  unfold runB
  dsimp only
  sl_unfold_words
  refine List.forall_mem_cons.mpr ⟨fun y => Eq.trans ?_ (wide_pieceT harg1 x0 _ (by decide) (by decide) y), ?_⟩; · rfl
  iterate 22 refine List.forall_mem_cons.mpr ⟨fun y => Eq.trans ?_ (wide_pieceL harg1 x0 _ (by decide) (by decide) y), ?_⟩; · rfl
  exact fun p hp => absurd hp List.not_mem_nil

end

end Cert.YKernelIdeal.Y

end
-- ==== Proof.YRunC.lean ====
/- The y kernel's body run once, in one of its three cases: the pieces its stores leave are found by the run. -/
module

public import proofs.«01_k».proof.Proof.YKit

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 2400000 in
/-- An even point past the first: multiplies slot b, quantises into slot a. What the stores leave, as pieces (last first), with the proof that the body runs to a continuation holding them. -/
noncomputable def runC (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : ¬condA i) (hc1 : ¬condB i) (hc2 : condC i)
    (x0 : Vec F S1x2880x256 .bf16) (x1 : Vec F S2880x4096 .bf16) (xs : Vec F S256x2880 .bf16) :
    Σ' (L2 : List (View.Piece (Elt F) S1x256x4096 .bf16)), Σ' (L3 : List (View.Piece (Elt F) S1x2880x256 .fp8e4m3)), Σ' (L4 : List (View.Piece (Elt F) S1x90x256 .i8)), { LS : List (View.Piece (Elt F) S256x2880 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS) ∗ (∃ d, owns (c : Thread nD τ) arg7 fullShare d)) -∗ K ⟨⟩))
          ⊢ wp frame (wpE (defs₀ (F := F)) Variants.none c none) E (cc0_y_call i arg1 harg1 arg2 harg2 arg3 harg3 arg4 harg4 arg5 harg5 arg6 harg6 arg7 harg7) K } := by
  refine ⟨?_, ?_, ?_, ?_, fun E K => ?run⟩
  case run =>
    simp only [cc0_y_call_eq_skeleton]; unfold cc0_y_call_skel
    rw [k0_part172_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%fs1, %hfs1, HS1⟩, Hk⟩
    obtain rfl := harg1.eq_unread hf0; obtain rfl := harg2.eq_unread hf1; obtain rfl := harg7.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _, _; isplitr; swap; · iexact HS1
    ipureintro; rfl

end Cert.YKernelIdeal.Y

end
-- ==== Proof.YOutC.lean ====
/- What an even point past the first of the y kernel leaves in the windows and the slots, over the reals. -/
module

public import proofs.«01_k».proof.Proof.YOut
public import proofs.«01_k».proof.Proof.YRunC

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic

section

variable (c : Dev nD) (i : grid0.Coords) (arg1 : Memref sig .tc .vmem S1x2880x256 .bf16) (harg1 : arg1.IsWhole) (arg2 : Memref sig .tc .vmem S2880x4096 .bf16) (harg2 : arg2.IsWhole) (arg3 : Memref sig .tc .vmem S1x256x4096 .bf16) (harg3 : arg3.IsWhole) (arg4 : Memref sig .tc .vmem S1x2880x256 .fp8e4m3) (harg4 : arg4.IsWhole) (arg5 : Memref sig .tc .vmem S1x90x256 .i8) (harg5 : arg5.IsWhole) (arg6 : Memref sig .tc .vmem S256x2880 .bf16) (harg6 : arg6.IsWhole) (arg7 : Memref sig .tc .vmem S256x2880 .bf16) (harg7 : arg7.IsWhole) (hc0 : ¬condA i) (hc1 : ¬condB i) (hc2 : condC i)
    (x0 : Vec Ideal S1x2880x256 .bf16) (x1 : Vec Ideal S2880x4096 .bf16) (xs : Vec Ideal S256x2880 .bf16)

/-- An even point past the first: the product's window holds slot b times the weights. -/
theorem outC_2 {κ : Kind} {sp : Space} (v : View sig κ sp S1x256x4096 .bf16) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).1) = Prod x1 xs := by
  have hc := View.cover_of_tiledL (runC (F := Ideal) c i arg1 harg1 arg2 harg2 arg3 harg3 arg4 harg4 arg5 harg5 arg6 harg6 arg7 harg7 hc0 hc1 hc2 x0 x1 xs).1 S1x256x512.size (by sl_kernel_rfl)
  refine funext fun y => View.read_writes_apply_of_pieces v f _ _ ?_ y (hc y)
  clear hc
  unfold runC
  dsimp only
  sl_unfold_words
  iterate 8 refine List.forall_mem_cons.mpr ⟨fun y => Eq.trans ?_ (dot_piece harg2 x1 _ _ (slot_load harg7 xs (by decide)) _ (by decide) y), ?_⟩; · rfl
  exact fun p hp => absurd hp List.not_mem_nil

/-- An even point past the first: the codes' window holds the chunk's codes. -/
theorem outC_3 {κ : Kind} {sp : Space} (v : View sig κ sp S1x2880x256 .fp8e4m3) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).2.1) = Codes x0 := by
  have hc := View.cover_of_tiledBy (runC (F := Ideal) c i arg1 harg1 arg2 harg2 arg3 harg3 arg4 harg4 arg5 harg5 arg6 harg6 arg7 harg7 hc0 hc1 hc2 x0 x1 xs).2.1 S1x64x256.size (by sl_kernel_rfl)
  refine funext fun y => View.read_writes_apply_of_pieces v f _ _ ?_ y (hc y)
  clear hc
  unfold runC
  dsimp only
  sl_unfold_words
  refine List.forall_mem_cons.mpr ⟨fun y => Eq.trans ?_ (codes_pieceT harg1 x0 _ (by decide) (by decide) y), ?_⟩; · rfl
  iterate 22 refine List.forall_mem_cons.mpr ⟨fun y => Eq.trans ?_ (codes_pieceL harg1 x0 _ (by decide) (by decide) y), ?_⟩; · rfl
  exact fun p hp => absurd hp List.not_mem_nil

/-- An even point past the first: the exponents' window holds the chunk's exponents. -/
theorem outC_4 {κ : Kind} {sp : Space} (v : View sig κ sp S1x90x256 .i8) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).2.2.1) = Bytes x0 := by
  have hc := View.cover_of_tiledL (runC (F := Ideal) c i arg1 harg1 arg2 harg2 arg3 harg3 arg4 harg4 arg5 harg5 arg6 harg6 arg7 harg7 hc0 hc1 hc2 x0 x1 xs).2.2.1 S1x90x256.size (by sl_kernel_rfl)
  refine funext fun y => View.read_writes_apply_of_pieces v f _ _ ?_ y (hc y)
  clear hc
  unfold runC
  dsimp only
  sl_unfold_words
  refine List.forall_mem_cons.mpr ⟨fun y => Eq.trans (Eq.trans ?_ (bytes_piece harg1 x0 y)) (congrArg (Bytes x0) (emb_whole inb_S1x90x256_S1x90x256_0_0_0 y).symm), ?_⟩; · rfl
  exact fun p hp => absurd hp List.not_mem_nil

/-- An even point past the first: slot a holds the chunk's values. -/
theorem outC_S {κ : Kind} {sp : Space} (v : View sig κ sp S256x2880 .bf16) (f : v.ty.Contents (Elt Ideal)) :
    v.read (Elt Ideal) (v.writes (Elt Ideal) f (runC (F := Ideal) c i arg1 harg1 arg2 harg2 arg3 harg3 arg4 harg4 arg5 harg5 arg6 harg6 arg7 harg7 hc0 hc1 hc2 x0 x1 xs).2.2.2.1) = Wide x0 := by
  have hc := View.cover_of_tiledBy (runC (F := Ideal) c i arg1 harg1 arg2 harg2 arg3 harg3 arg4 harg4 arg5 harg5 arg6 harg6 arg7 harg7 hc0 hc1 hc2 x0 x1 xs).2.2.2.1 S256x64.size (by sl_kernel_rfl)
  refine funext fun y => View.read_writes_apply_of_pieces v f _ _ ?_ y (hc y)
  clear hc
  unfold runC
  dsimp only
  sl_unfold_words
  refine List.forall_mem_cons.mpr ⟨fun y => Eq.trans ?_ (wide_pieceT harg1 x0 _ (by decide) (by decide) y), ?_⟩; · rfl
  iterate 22 refine List.forall_mem_cons.mpr ⟨fun y => Eq.trans ?_ (wide_pieceL harg1 x0 _ (by decide) (by decide) y), ?_⟩; · rfl
  exact fun p hp => absurd hp List.not_mem_nil

end

end Cert.YKernelIdeal.Y

end
-- ==== Proof.YFrame.lean ====
/- The frame of the y kernel over the reals, with what every window and slot holds after each step named. -/
module

public import proofs.«01_k».proof.Proof.YOutA
public import proofs.«01_k».proof.Proof.YOutB
public import proofs.«01_k».proof.Proof.YOutC
public import proofs.«01_k».proof.Proof.YKit
public import Idealize.ShloMosaic.Lib.Claim

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The step before `t` (the first one's is itself). -/
def prev (t : Fin cfg0.N) : Fin cfg0.N := ⟨t.val - 1, lt_of_le_of_lt (Nat.sub_le _ _) t.isLt⟩

/-- Before the first step both slots hold anything; after step `n` the slot it filled holds its chunk's values. -/
def PhiS (c : Dev nD) : (n : ℕ) → n ≤ cfg0.N → sProp 𝕄
  | 0, _ => Pipeline.ΦA spec0 c
  | n + 1, hn => if n % 2 = 0 then
      iprop(iprop(owns (c : Thread nD τ) scM0_0 fullShare (Wide (iblk m c 0 ⟨n, hn⟩)) ∗ (∃ d, owns (c : Thread nD τ) scM0_1 fullShare d)) ∗ (∃ r, prngReg c r))
    else
      iprop(iprop((∃ d, owns (c : Thread nD τ) scM0_0 fullShare d) ∗ owns (c : Thread nD τ) scM0_1 fullShare (Wide (iblk m c 0 ⟨n, hn⟩))) ∗ (∃ r, prngReg c r))

/-- Before the first step the slots hold anything. -/
theorem PhiS_zero (c : Dev nD) (n : ℕ) (h : n ≤ cfg0.N) (hz : n = 0) : PhiS m c n h = Pipeline.ΦA spec0 c := by
  subst hz; rfl

/-- After an even step slot a holds that step's chunk. -/
theorem PhiS_even (c : Dev nD) (n : ℕ) (hn : n < cfg0.N) (he : n % 2 = 0) :
    PhiS m c (n + 1) hn = iprop(iprop(owns (c : Thread nD τ) scM0_0 fullShare (Wide (iblk m c 0 ⟨n, hn⟩)) ∗ (∃ d, owns (c : Thread nD τ) scM0_1 fullShare d)) ∗ (∃ r, prngReg c r)) := by
  exact if_pos he

/-- After an odd step slot b holds that step's chunk. -/
theorem PhiS_odd (c : Dev nD) (n : ℕ) (hn : n < cfg0.N) (he : ¬n % 2 = 0) :
    PhiS m c (n + 1) hn = iprop(iprop((∃ d, owns (c : Thread nD τ) scM0_0 fullShare d) ∗ owns (c : Thread nD τ) scM0_1 fullShare (Wide (iblk m c 0 ⟨n, hn⟩))) ∗ (∃ r, prngReg c r)) := by
  exact if_neg he

/-- Before an odd step slot a holds the chunk of the step before. -/
theorem PhiS_before_odd (c : Dev nD) (t : Fin cfg0.N) (ho : t.val % 2 = 1) :
    PhiS m c t.val (Nat.le_of_lt t.isLt) = iprop(iprop(owns (c : Thread nD τ) scM0_0 fullShare (Wide (iblk m c 0 (prev t))) ∗ (∃ d, owns (c : Thread nD τ) scM0_1 fullShare d)) ∗ (∃ r, prngReg c r)) := by
  obtain ⟨n, hn⟩ := t
  cases n with
  | zero => simp at ho
  | succ n => exact PhiS_even m c n _ (by dsimp only at ho; omega)

/-- Before an even step past the first slot b holds the chunk of the step before. -/
theorem PhiS_before_even (c : Dev nD) (t : Fin cfg0.N) (he : t.val % 2 = 0) (hz : t.val ≠ 0) :
    PhiS m c t.val (Nat.le_of_lt t.isLt) = iprop(iprop((∃ d, owns (c : Thread nD τ) scM0_0 fullShare d) ∗ owns (c : Thread nD τ) scM0_1 fullShare (Wide (iblk m c 0 (prev t)))) ∗ (∃ r, prngReg c r)) := by
  obtain ⟨n, hn⟩ := t
  cases n with
  | zero => exact absurd rfl hz
  | succ n => exact PhiS_odd m c n _ (by dsimp only at he; omega)

/-- The proof data: the product's window holds the product with the chunk of the step before, the codes' and the exponents' windows
    those of the step's chunk. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Prod (iblk m c 1 t) (Wide (iblk m c 0 (prev t)))
    | ⟨3, _⟩ => Codes (iblk m c 0 t)
    | ⟨4, _⟩ => Bytes (iblk m c 0 t)
  Φ t := PhiS m c t.val (Nat.le_of_lt_succ t.isLt)
  q _ := fullShare
  owed _ := 0

/-- A window's array is the one of the memory on entry. -/
theorem A_eq (c : Dev nD) (w : Fin cfg0.W) : (dats m 0 c).A w = V m c (Pipeline.arrRef spec0 w) := by
  dsimp only [dats]

/-- The invariant before a step, at the step's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The first input's window is left as it was loaded. -/
theorem after0_0 (c : Dev nD) (t : Fin cfg0.N) : (dats m 0 c).after 0 t = iblk m c 0 t := by dsimp only [dats]
/-- The second input's window is left as it was loaded. -/
theorem after0_1 (c : Dev nD) (t : Fin cfg0.N) : (dats m 0 c).after 1 t = iblk m c 1 t := by dsimp only [dats]
/-- The product's window after a step. -/
theorem after0_2 (c : Dev nD) (t : Fin cfg0.N) : (dats m 0 c).after 2 t = Prod (iblk m c 1 t) (Wide (iblk m c 0 (prev t))) := by dsimp only [dats]
/-- The codes' window after a step. -/
theorem after0_3 (c : Dev nD) (t : Fin cfg0.N) : (dats m 0 c).after 3 t = Codes (iblk m c 0 t) := by dsimp only [dats]
/-- The exponents' window after a step. -/
theorem after0_4 (c : Dev nD) (t : Fin cfg0.N) : (dats m 0 c).after 4 t = Bytes (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second input's window holds its block before a step. -/
theorem before0_1 (c : Dev nD) (t : Fin cfg0.N) (d) : (dats m 0 c).before 1 t d = iblk m c 1 t :=
  before0_1_of m (dats m 0 c) (A_eq m c 1) (after0_1 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any step. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
      unfold Dat.leavesExact; rw [liveAt_0 t], after0_0]
  rw [show (dats m 0 c).leavesExact 1 t = owns (c : Thread nD τ) (ms0_1 t) fullShare ((dats m 0 c).after 1 t) from by
      unfold Dat.leavesExact; rw [liveAt_1 t], after0_1]
  rw [show (dats m 0 c).leavesExact 3 t = owns (c : Thread nD τ) (ms0_3 t) fullShare ((dats m 0 c).after 3 t) from by
      unfold Dat.leavesExact; rw [liveAt_3 t], after0_3]
  rw [show (dats m 0 c).leavesExact 4 t = owns (c : Thread nD τ) (ms0_4 t) fullShare ((dats m 0 c).after 4 t) from by
      unfold Dat.leavesExact; rw [liveAt_4 t], after0_4]
  by_cases h0 : t.val = 0
  · rw [Dat.leavesExact_idle _ 2 t (idleAt_2 t h0) (noflush_2 t h0)]
    rw [PhiS_castSucc m c t, PhiS_zero m c _ _ h0, PhiA0_eq]
    rw [PhiS_even m c t.val t.isLt (by omega)]
    iintro ⟨⟨⟨HS0, HS1⟩, Hg⟩, Ho, ⟨%d0, H0⟩, ⟨%d1, H1⟩, ⟨%d2, H2⟩, ⟨%d3, H3⟩, ⟨%d4, H4⟩⟩
    iapply ((runA (F := Ideal) c (grid0.coords t) _ _ _ _ _ _ _ _ _ _ _ _ _ _ ((hcondA t).mpr h0) (fun h => by have := (hcondB t).mp h; omega) (fun h => ((hcondC t).mp h).2 h0) (iblk m c 0 t) (iblk m c 1 t) _).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, HS1⟩
    isplitl [HS0 HS1 Hg]
    · isplitl [HS0 HS1]
      · isplitl [HS0]
        · unfold owns; iexists _; isplitr
          swap; · iexact HS0
          ipureintro; exact outA_S ..
        iexact HS1
      iexact Hg
    isplitl [Ho]; · iexact Ho
    isplitl [H0]; · iexact H0
    isplitl [H1]; · iexact H1
    isplitl [H2]; · iexists _; iexact H2
    isplitl [H3]
    · unfold owns; iexists _; isplitr
      swap; · iexact H3
      ipureintro; exact outA_3 ..
    unfold owns; iexists _; isplitr
    swap; · iexact H4
    ipureintro; exact outA_4 ..
  · rw [show (dats m 0 c).leavesExact 2 t = owns (c : Thread nD τ) (ms0_2 t) fullShare ((dats m 0 c).after 2 t) from by
      unfold Dat.leavesExact; rw [liveAt_2 t h0], after0_2]
    by_cases h1 : t.val % 2 = 1
    · rw [PhiS_castSucc m c t, PhiS_before_odd m c t h1]
      rw [PhiS_odd m c t.val t.isLt (by omega)]
      iintro ⟨⟨⟨HS0, HS1⟩, Hg⟩, Ho, ⟨%d0, H0⟩, ⟨%d1, H1⟩, ⟨%d2, H2⟩, ⟨%d3, H3⟩, ⟨%d4, H4⟩⟩
      iapply ((runB (F := Ideal) c (grid0.coords t) _ _ _ _ _ _ _ _ _ _ _ _ _ _ (fun h => h0 ((hcondA t).mp h)) ((hcondB t).mpr h1) (fun h => by have := ((hcondC t).mp h).1; omega) (iblk m c 0 t) (iblk m c 1 t) (Wide (iblk m c 0 (prev t)))).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, HS0, ⟨%es1, HS1⟩⟩
      isplitl [HS0 HS1 Hg]
      · isplitl [HS0 HS1]
        · isplitl [HS0]
          · iexact HS0
          unfold owns; iexists _; isplitr
          swap; · iexact HS1
          ipureintro; exact outB_S ..
        iexact Hg
      isplitl [Ho]; · iexact Ho
      isplitl [H0]; · iexact H0
      isplitl [H1]; · iexact H1
      isplitl [H2]
      · unfold owns; iexists _; isplitr
        swap; · iexact H2
        ipureintro; exact outB_2 ..
      isplitl [H3]
      · unfold owns; iexists _; isplitr
        swap; · iexact H3
        ipureintro; exact outB_3 ..
      unfold owns; iexists _; isplitr
      swap; · iexact H4
      ipureintro; exact outB_4 ..
    · rw [PhiS_castSucc m c t, PhiS_before_even m c t (by omega) h0]
      rw [PhiS_even m c t.val t.isLt (by omega)]
      iintro ⟨⟨⟨HS0, HS1⟩, Hg⟩, Ho, ⟨%d0, H0⟩, ⟨%d1, H1⟩, ⟨%d2, H2⟩, ⟨%d3, H3⟩, ⟨%d4, H4⟩⟩
      iapply ((runC (F := Ideal) c (grid0.coords t) _ _ _ _ _ _ _ _ _ _ _ _ _ _ (fun h => h0 ((hcondA t).mp h)) (fun h => h1 ((hcondB t).mp h)) ((hcondC t).mpr ⟨by omega, h0⟩) (iblk m c 0 t) (iblk m c 1 t) (Wide (iblk m c 0 (prev t)))).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, HS1⟩
      isplitl [HS0 HS1 Hg]
      · isplitl [HS0 HS1]
        · isplitl [HS0]
          · unfold owns; iexists _; isplitr
            swap; · iexact HS0
            ipureintro; exact outC_S ..
          iexact HS1
        iexact Hg
      isplitl [Ho]; · iexact Ho
      isplitl [H0]; · iexact H0
      isplitl [H1]; · iexact H1
      isplitl [H2]
      · unfold owns; iexists _; isplitr
        swap; · iexact H2
        ipureintro; exact outC_2 ..
      isplitl [H3]
      · unfold owns; iexists _; isplitr
        swap; · iexact H3
        ipureintro; exact outC_3 ..
      unfold owns; iexists _; isplitr
      swap; · iexact H4
      ipureintro; exact outC_4 ..

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the slots' contents are forgotten. -/
theorem hout (c : Dev nD) : (dats m 0 c).Φ (Fin.last cfg0.N) ⊢ Pipeline.ΦA spec0 c := by
  have hN : cfg0.N = 36 + 1 := N_0
  rw [show (dats m 0 c).Φ (Fin.last cfg0.N) = PhiS m c (36 + 1) (by rw [hN]) from by
    dsimp only [dats]; congr 1, PhiS_even m c 36 (by rw [hN]; omega) rfl, PhiA0_eq]
  iintro ⟨⟨HS0, HS1⟩, Hg⟩
  isplitl [HS0 HS1]
  · isplitl [HS0]
    · iexists _; iexact HS0
    iexact HS1
  iexact Hg

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.YKernelIdeal.Y

end
-- ==== Proof.YValue.lean ====
/- What the y kernel's result arrays hold after the run, over the reals. -/
module

public import proofs.«01_k».proof.Proof.YFrame

@[expose] public section

set_option maxRecDepth 16384

noncomputable section

namespace Cert.YKernelIdeal.Y

open Cert.YKernelIdeal Cert.YKernelIdeal.Gen
open Idealize.ShloMosaic Idealize.ShloMosaic.TcCoe Idealize.ShloMosaic.Tactic
open Idealize.ShloMosaic.Pipeline (Dat Cfg Window)
open Cert.Quant

variable (m : (ℓ : Loc nD τ sig) → Buf (Elt Ideal) ℓ) (ρ : Dev nD → PrngReg)

/-- A row of x, out of x turned. -/
def row (v : Vec Ideal S6x2880x1536 .bf16) (b : Fin 6) (s : Fin 1536) : Fin 2880 → EReal := fun n => v (ix3 b n s)

/-- The product, the codes and the exponents of the whole of x, turned. -/
def G2 (v : Vec Ideal S6x2880x1536 .bf16) (w : Vec Ideal S2880x4096 .bf16) : Vec Ideal S6x1536x4096 .bf16 := fun i =>
  ∑ n : Fin 2880, rowWide (by decide) (row v (i 0) (i 1)) n * w (ix2 n (i 2 : Fin 4096))
/-- The codes of the whole array. -/
def G3 (v : Vec Ideal S6x2880x1536 .bf16) : Vec Ideal S6x2880x1536 .fp8e4m3 := fun i => rowCode (by decide) (row v (i 0) (i 2)) (i 1)
/-- The exponents of the whole array. -/
def G4 (v : Vec Ideal S6x2880x1536 .bf16) : Vec Ideal S6x90x1536 .i8 := fun i =>
  rowByte (row v (i 0) (i 2)) (i 1).val (by have h : (i 1).val < 90 := (i 1).isLt; omega)

/-- x with its last two axes exchanged. -/
abbrev turn (v : Vec Ideal S6x1536x2880 .bf16) : Vec Ideal S6x2880x1536 .bf16 :=
  transpose S6x2880x1536 [0, 2, 1] v transposes_S6x1536x2880_S6x2880x1536_0_2_1

/-- The region finds x turned. -/
theorem V_main_v0 (c : Dev nD) : V m c main_v0 = turn (m ((c : Thread nD τ).loc main_arg0)) := by
  unfold V hostOps0
  after_results

/-- The block of the quantised input at each step. -/
theorem e0 : ∀ t : Fin cfg0.N, win0_0.index t = ![min t.val 35 / 6, 0, min t.val 35 % 6] :=
  (by decide +kernel : ∀ t : Fin grid0.N, win0_0.index t = ![min t.val 35 / 6, 0, min t.val 35 % 6])
/-- The weights are one block. -/
theorem e1 : ∀ t : Fin cfg0.N, win0_1.index t = ![0, 0] := (by decide +kernel : ∀ t : Fin grid0.N, win0_1.index t = ![0, 0])
/-- The block of the product at each step. -/
theorem e2 : ∀ t : Fin cfg0.N, win0_2.index t = ![(t.val - 1) / 6, (t.val - 1) % 6, 0] :=
  (by decide +kernel : ∀ t : Fin grid0.N, win0_2.index t = ![(t.val - 1) / 6, (t.val - 1) % 6, 0])
/-- The block of the codes at each step. -/
theorem e3 : ∀ t : Fin cfg0.N, win0_3.index t = ![min t.val 35 / 6, 0, min t.val 35 % 6] :=
  (by decide +kernel : ∀ t : Fin grid0.N, win0_3.index t = ![min t.val 35 / 6, 0, min t.val 35 % 6])
/-- The block of the exponents at each step. -/
theorem e4 : ∀ t : Fin cfg0.N, win0_4.index t = ![min t.val 35 / 6, 0, min t.val 35 % 6] :=
  (by decide +kernel : ∀ t : Fin grid0.N, win0_4.index t = ![min t.val 35 / 6, 0, min t.val 35 % 6])

/-- A row of a step's chunk is a row of x. -/
theorem lane_eq (c : Dev nD) (t : Fin cfg0.N) (r : Fin 256) (b : Fin 6) (s : Fin 1536) (hb : b.val = min t.val 35 / 6) (hs : s.val = min t.val 35 % 6 * 256 + r.val) :
    lane (iblk m c 0 t) r = row (V m c main_v0) b s := by
  funext n
  unfold lane row
  blk_simp [iblk]
  refine congrArg (V m c main_v0) (funext fun a => Fin.ext ?_)
  fin_cases a
  · blk_simp [e0]; simp; omega
  · blk_simp [e0]; simp
  · blk_simp [e0]; simp; omega

/-- The rows split evenly into blocks. -/
theorem hN : 2880 % 32 = 0 := rfl

/-- The codes' array after the last step. -/
theorem final3 (c : Dev nD) : (dats m 0 c).arrAt 3 cfg0.N = G3 (V m c main_v0) := by
  refine (dats m 0 c).arrAt_eq_of_covers 3 _ (by decide +kernel) fun t hf y => ?_
  blk_simp
  rw [after0_3]
  unfold Codes G3
  refine (congrArg (fun f => rowCode hN f (y 1 : Fin 2880)) (lane_eq m c t (y 2 : Fin 256) (((cfg0.win 3).blk t).view.emb y 0) (((cfg0.win 3).blk t).view.emb y 2) ?_ ?_)).trans ?_
  · have h : (y 0).val < 1 := (y 0).isLt
    blk_simp [e3]; try (simp; omega)
  · blk_simp [e3]; try simp
  · refine congrArg (rowCode hN _) (Fin.ext ?_)
    blk_simp [e3]; try simp

/-- The exponents' array after the last step. -/
theorem final4 (c : Dev nD) : (dats m 0 c).arrAt 4 cfg0.N = G4 (V m c main_v0) := by
  refine (dats m 0 c).arrAt_eq_of_covers 4 _ (by decide +kernel) fun t hf y => ?_
  blk_simp
  rw [after0_4]
  unfold Bytes G4 rowByte
  have hg : ((((cfg0.win 4).blk t).view.emb y 1 : Fin _) : ℕ) = (y 1).val := by blk_simp [e4]; try simp
  refine congrArg (fun u => byte8 (amp u)) ?_
  rw [lane_eq m c t (y 2 : Fin 256) (((cfg0.win 4).blk t).view.emb y 0) (((cfg0.win 4).blk t).view.emb y 2) (by
    have h : (y 0).val < 1 := (y 0).isLt
    blk_simp [e4]; try (simp; omega)) (by blk_simp [e4]; try simp)]
  exact blk_congr _ hg.symm _ _

/-- Sums of equal terms are equal. -/
theorem sum_congr' (f g : Fin 2880 → EReal) (h : ∀ n, f n = g n) : ∑ n, f n = ∑ n, g n := Finset.sum_congr rfl fun n _ => h n

/-- The product array after the last step. -/
theorem final2 (c : Dev nD) : (dats m 0 c).arrAt 2 cfg0.N = G2 (V m c main_v0) (V m c main_arg1) := by
  refine (dats m 0 c).arrAt_eq_of_covers 2 _ (by decide +kernel) fun t hf y => ?_
  blk_simp
  rw [after0_2]
  unfold Prod G2 Wide
  have hm : min (prev t).val 35 = t.val - 1 := by
    have h : t.val < 37 := lt_of_lt_of_eq t.isLt (show cfg0.N = 37 from N_0)
    show min (t.val - 1) 35 = t.val - 1
    omega
  refine sum_congr' _ _ fun n => congrArg₂ (· * ·) ?_ ?_
  · refine congrArg (fun f => rowWide hN f n) (lane_eq m c (prev t) (y 1 : Fin 256) (((cfg0.win 2).blk t).view.emb y 0) (((cfg0.win 2).blk t).view.emb y 1) ?_ ?_)
    · have h : (y 0).val < 1 := (y 0).isLt
      rw [hm]; blk_simp [e2]; try (simp; omega)
    · rw [hm]; blk_simp [e2]; try simp
  · blk_simp [iblk]
    refine congrArg (V m c main_arg1) (funext fun a => Fin.ext ?_)
    fin_cases a
    · blk_simp [e1]; try simp
    · blk_simp [e1, e2]; simp; exact congrFun (e2 t) 2

/-- The run, each result at its function of the arguments, the arguments unchanged. -/
theorem run : θ_run defs (onTc (τ := τ) (main (F := Ideal))) ⟨m, fun _ => 0, ρ⟩ fun r => ∀ c : Dev nD,
      r.2.mem ((c : Thread nD τ).loc main_v1_0) = G2 (turn (m ((c : Thread nD τ).loc main_arg0))) (m ((c : Thread nD τ).loc main_arg1))
      ∧ r.2.mem ((c : Thread nD τ).loc main_v1_1) = G3 (turn (m ((c : Thread nD τ).loc main_arg0)))
      ∧ r.2.mem ((c : Thread nD τ).loc main_v1_2) = G4 (turn (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans ((final2 m c).trans (by rw [V_main_v0, V_main_arg1])),
      ((h c).1 3).trans ((final3 m c).trans (by rw [V_main_v0])), ((h c).1 4).trans ((final4 m c).trans (by rw [V_main_v0])),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.YKernelIdeal.Y

end
-- ==== Proof.YRef.lean ====
/- The y reference's results at an index, over the reals, on finite inputs. -/
module

public import proofs.«01_k».proof.Proof.Quant
public import proofs.«01_k».proof.Proof.Gen.YReferenceIdeal.Skeleton
public import proofs.«01_k».proof.Pre_finite_x
public import Idealize.ShloMosaic.Lib.ReduceAll

@[expose] public section

set_option maxRecDepth 16384

noncomputable section

namespace Cert.YReferenceIdeal.Y

open Cert.YReferenceIdeal Cert.YReferenceIdeal.Gen
open Idealize.ShloMosaic Idealize.ShloMosaic.TcCoe Idealize.ShloMosaic.Tactic
open Cert.Quant

/-- A row of x, out of x turned. -/
def row (v : Vec Ideal S6x2880x1536 .bf16) (b : Fin 6) (s : Fin 1536) : Fin 2880 → EReal := fun n => v (ix3 b n s)

/-- The input cut into blocks, at an index. -/
theorem pay3_apply (v : Vec Ideal S6x2880x1536 .bf16) (j : S6x90x32x1536.Idx) :
    k0_pay3 v j = blk (row v (j 0) (j 3)) (j 1).val (by have := (j 1).isLt; simp at this ⊢; omega) (j 2) := by
  pointwise [k0_pay3]
  rfl

/-- A block's maximum, at an index. -/
theorem max_apply (v : FVec Ideal S6x90x32x1536 .f32) (j : S6x90x1536.Idx) :
    multiReduction (F := Ideal) .maximumf [2] S6x90x1536 v 0xFF800000#32 reduces_S6x90x32x1536_S6x90x1536 (.inl rfl) rfl j
      = Finset.fold max (Ideal.ofBits .f32 4286578688#32) (fun x => v (ix4 (j 0) (j 1) x (j 2))) Finset.univ := by
  pointwise []

/-- The exponent from a block's greatest magnitude over 448, whole arrays at a time. -/
def expV {F : FTy → Type} [FloatOps F] (p : FVec F S6x90x1536 .f32) : FVec F S6x90x1536 .f32 :=
  select (cmpf .olt p (broadcast S6x90x1536 (Scalar.ofBits .f32 0x00800000#32 : F .f32))) (broadcast S6x90x1536 (Scalar.ofBits .f32 0x00000000#32 : F .f32))
    (addf (floor (divf (log p) (log (broadcast S6x90x1536 (Scalar.ofBits .f32 0x40000000#32 : F .f32)))))
      (broadcast S6x90x1536 (Scalar.ofBits .f32 0x3F800000#32 : F .f32)))

/-- The exponents are written by the functions above. -/
theorem pay4_eq {F : FTy → Type} [FloatOps F] (v : Vec F S6x2880x1536 .bf16) :
    k0_pay4 v = expV (mulf (multiReduction (F := F) .maximumf [2] S6x90x1536 (absf (k0_pay3 v)) 0xFF800000#32 reduces_S6x90x32x1536_S6x90x1536 (.inl rfl) rfl)
      (broadcast S6x90x1536 (Scalar.ofBits .f32 0x3B124925#32 : F .f32))) := rfl

/-- The exponent, at an index. -/
theorem expV_apply (p : FVec Ideal S6x90x1536 .f32) (j : S6x90x1536.Idx) : expV p j = rexp (p j) := rfl

/-- The scaled maximum, at an index. -/
theorem mul_apply (p : FVec Ideal S6x90x1536 .f32) (j : S6x90x1536.Idx) :
    mulf p (broadcast S6x90x1536 (Scalar.ofBits .f32 0x3B124925#32 : Ideal .f32)) j = p j * Ideal.ofBits .f32 991054117#32 := rfl

/-- The exponent is that of the block's scaled maximum. -/
theorem pay4_max (v : Vec Ideal S6x2880x1536 .bf16) (j : S6x90x1536.Idx) :
    k0_pay4 v j = rexp (multiReduction (F := Ideal) .maximumf [2] S6x90x1536 (absf (k0_pay3 v)) 0xFF800000#32 reduces_S6x90x32x1536_S6x90x1536 (.inl rfl) rfl j
      * Ideal.ofBits .f32 991054117#32) := by
  rw [pay4_eq, expV_apply, mul_apply]

/-- The exponents are those of the row's blocks. -/
theorem pay4_apply (v : Vec Ideal S6x2880x1536 .bf16) (j : S6x90x1536.Idx) :
    k0_pay4 v j = rexp (amp (blk (row v (j 0) (j 2)) (j 1).val (by have := (j 1).isLt; simp at this ⊢; omega))) := by
  rw [pay4_max, max_apply]
  unfold amp
  rw [bot16, ← bot32]
  refine congrArg (fun f => rexp (Finset.fold max (Ideal.ofBits .f32 4286578688#32) f Finset.univ * Ideal.ofBits .f32 991054117#32)) (funext fun x => ?_)
  rw [show absf (k0_pay3 v) (ix4 (j 0) (j 1) x (j 2)) = max (k0_pay3 v (ix4 (j 0) (j 1) x (j 2))) (-(k0_pay3 v (ix4 (j 0) (j 1) x (j 2)))) from rfl, pay3_apply]
  rfl

/-- A value per block read at an element of the block. -/
theorem spread_apply {φ : FTy} (u : FVec Ideal S6x90x1536 φ) (j : S6x90x32x1536.Idx) :
    (broadcastTo S6x90x32x1536 (shapeCast S6x90x1x1536 u shapeCasts_S6x90x1536_S6x90x1x1536) broadcasts_S6x90x1x1536_S6x90x32x1536) j
      = u (ix3 (j 0) (j 1) (j 3)) := by
  pointwise []

/-- A value per block, at every element of the block. -/
def spreadV {F : FTy → Type} [FloatOps F] {φ : FTy} (u : FVec F S6x90x1536 φ) : FVec F S6x90x32x1536 φ :=
  broadcastTo S6x90x32x1536 (shapeCast S6x90x1x1536 u shapeCasts_S6x90x1536_S6x90x1x1536) broadcasts_S6x90x1x1536_S6x90x32x1536

/-- A scale spread over its block, at an index. -/
theorem spreadV_apply {φ : FTy} (u : FVec Ideal S6x90x1536 φ) (j : S6x90x32x1536.Idx) : spreadV u j = u (ix3 (j 0) (j 1) (j 3)) :=
  spread_apply u j

/-- Two to the negated exponent. -/
def negV {F : FTy → Type} [FloatOps F] (u : FVec F S6x90x1536 .f32) : FVec F S6x90x1536 .f32 :=
  exp2 (subf (broadcast S6x90x1536 (Scalar.ofBits .f32 0x00000000#32 : F .f32)) u)

/-- The clipped quotient. -/
def clipV {F : FTy → Type} [FloatOps F] (w z : FVec F S6x90x32x1536 .f32) : FVec F S6x90x32x1536 .fp8e4m3 :=
  truncf .fp8e4m3 (minimumf (broadcast S6x90x32x1536 (Scalar.ofBits .f32 0x43E00000#32 : F .f32))
    (maximumf (broadcast S6x90x32x1536 (Scalar.ofBits .f32 0xC3E00000#32 : F .f32)) (mulf w z))) bitsLt_fp8e4m3_f32

/-- The codes are written by the functions above. -/
theorem pay5_eq {F : FTy → Type} [FloatOps F] (v : Vec F S6x2880x1536 .bf16) :
    k0_pay5 v = clipV (k0_pay3 v) (spreadV (negV (k0_pay4 v))) := rfl

/-- The clipped quotient, at an index. -/
theorem clipV_apply (w z : FVec Ideal S6x90x32x1536 .f32) (j : S6x90x32x1536.Idx) : clipV w z j = code (z j) (w j) := rfl

/-- The inverse scale, at an index. -/
theorem negV_apply (u : FVec Ideal S6x90x1536 .f32) (j : S6x90x1536.Idx) : negV u j = Ideal.exp2 (Ideal.ofBits .f32 0#32 - u j) := rfl

/-- The codes before the last reshape. -/
theorem pay5_apply (v : Vec Ideal S6x2880x1536 .bf16) (j : S6x90x32x1536.Idx) :
    k0_pay5 v j = code (Ideal.exp2 (0 - k0_pay4 v (ix3 (j 0) (j 1) (j 3)))) (k0_pay3 v j) := by
  rw [← show Ideal.ofBits .f32 0#32 = (0 : EReal) from ofField_zero, pay5_eq, clipV_apply, spreadV_apply, negV_apply]

/-- The values back at full width, and the product. -/
def wideV {F : FTy → Type} [FloatOps F] (u : FVec F S6x90x1536 .f32) (q : FVec F S6x90x32x1536 .fp8e4m3) : FVec F S6x2880x1536 .bf16 :=
  shapeCast S6x2880x1536 (mulf (extf .bf16 q bitsLt_fp8e4m3_bf16) (spreadV (truncf .bf16 (exp2 u) bitsLt_bf16_f32)) : FVec F S6x90x32x1536 .bf16)
    shapeCasts_S6x90x32x1536_S6x2880x1536

/-- The weights, once for each batch. -/
def stackV {F : FTy → Type} [FloatOps F] (w : Vec F S2880x4096 .bf16) : FVec F S6x2880x4096 .bf16 :=
  broadcastTo S6x2880x4096 (shapeCast S1x2880x4096 (shapeCast S1x2880x4096 w shapeCasts_S2880x4096_S1x2880x4096) shapeCasts_S1x2880x4096_S1x2880x4096) broadcasts_S1x2880x4096_S6x2880x4096

/-- The product of every batch. -/
def dotV {F : FTy → Type} [FloatOps F] (a : FVec F S6x2880x1536 .bf16) (b : FVec F S6x2880x4096 .bf16) : FVec F S6x1536x4096 .bf16 :=
  truncf .bf16 (matmul dot_S6x2880x1536_S6x2880x4096_S6x1536x4096_1_1_2_2_0_0 none a b (constant S6x1536x4096 .f32 0x00000000#32)) bitsLt_bf16_f32

/-- The product is written by the functions above. -/
theorem pay6_eq {F : FTy → Type} [FloatOps F] (v : Vec F S6x2880x1536 .bf16) (w : Vec F S2880x4096 .bf16) :
    k0_pay6 v w = dotV (wideV (k0_pay4 v) (k0_pay5 v)) (stackV w) := rfl

/-- The repeated weights, at an index. -/
theorem stackV_apply (w : Vec Ideal S2880x4096 .bf16) (j : S6x2880x4096.Idx) : stackV w j = w (ix2 (j 1) (j 2)) := by
  pointwise [stackV]

/-- The product, at an index. -/
theorem dotV_apply (a : FVec Ideal S6x2880x1536 .bf16) (b : FVec Ideal S6x2880x4096 .bf16) (j : S6x1536x4096.Idx) :
    dotV a b j = ∑ k : Fin 2880, a (ix3 (j 0) k (j 1)) * b (ix3 (j 0) k (j 2)) := by
  pointwise [dotV]

/-- The values are the codes times the scales. -/
theorem wide_mul (q : FVec Ideal S6x90x32x1536 .fp8e4m3) (z : FVec Ideal S6x90x32x1536 .bf16) (j : S6x90x32x1536.Idx) :
    (mulf (extf .bf16 q bitsLt_fp8e4m3_bf16) z : FVec Ideal S6x90x32x1536 .bf16) j = q j * z j := rfl

/-- The scale, at an index. -/
theorem trunc_exp (u : FVec Ideal S6x90x1536 .f32) (j : S6x90x1536.Idx) :
    (truncf .bf16 (exp2 u) bitsLt_bf16_f32 : FVec Ideal S6x90x1536 .bf16) j = Ideal.exp2 (u j) := rfl

/-- The blocks put back into rows. -/
theorem unblock {α : Type} (q : S6x90x32x1536.Idx → α) (j : S6x2880x1536.Idx) : shapeCast S6x2880x1536 q shapeCasts_S6x90x32x1536_S6x2880x1536 j
      = q (ix4 (j 0) ⟨(j 1).val / 32, by have := (j 1).isLt; simp at this ⊢; omega⟩ ⟨(j 1).val % 32, by omega⟩ (j 2)) := by
  pointwise []

/-- The widened values, at an index. -/
theorem wideV_apply (u : FVec Ideal S6x90x1536 .f32) (q : FVec Ideal S6x90x32x1536 .fp8e4m3) (b : Fin 6) (s : Fin 1536) (n : Fin 2880) :
    wideV u q (ix3 b n s) = q (ix4 b ⟨n.val / 32, by omega⟩ ⟨n.val % 32, by omega⟩ s) * Ideal.exp2 (u (ix3 b ⟨n.val / 32, by omega⟩ s)) := by
  unfold wideV
  refine (unblock _ _).trans ?_
  rw [wide_mul, spreadV_apply]
  exact congrArg (_ * ·) (trunc_exp u _)

/-- The stored exponents, at an index. -/
theorem pay2_apply (u : FVec Ideal S6x90x1536 .f32) (j : S6x90x1536.Idx) : k0_pay2 u j = rbyte (u j) := rfl

section

variable (v : Vec Ideal S6x2880x1536 .bf16) (hv : ∀ j, max (v j) (-(v j)) ≤ Ideal.ofBits .bf16 32639#16)

include hv

/-- The entries of a block are finite where the array's are. -/
theorem blk_fin (b : Fin 6) (s : Fin 1536) (g : ℕ) (hg : g * 32 + 32 ≤ 2880) (k : Fin 32) :
    max (blk (row v b s) g hg k) (-(blk (row v b s) g hg k)) ≤ Ideal.ofBits .bf16 32639#16 := hv _

/-- The codes. -/
theorem codes_apply (j : S6x2880x1536.Idx) : k0_pay1 (k0_pay5 v) j = rowCode (by norm_num) (row v (j 0) (j 2)) (j 1) := by
  have h : k0_pay1 (k0_pay5 v) j = k0_pay5 v (ix4 (j 0) ⟨(j 1).val / 32, by have := (j 1).isLt; simp at this ⊢; omega⟩ ⟨(j 1).val % 32, by omega⟩ (j 2)) :=
    unblock (k0_pay5 v) j
  rw [h, pay5_apply, pay4_apply, pay3_apply]
  unfold rowCode
  rw [← (agree_block _ (blk_fin v hv (j 0) (j 2) ((j 1).val / 32) (by have := (j 1).isLt; simp at this ⊢; omega))).1]
  refine congrArg (code _) ?_
  unfold blk
  refine congrArg (row v (j 0) (j 2)) (Fin.ext ?_)
  show (j 1).val / 32 * 32 + (j 1).val % 32 = (j 1).val
  omega

/-- The stored exponents. -/
theorem bytes_apply (j : S6x90x1536.Idx) :
    k0_pay2 (k0_pay4 v) j = rowByte (row v (j 0) (j 2)) (j 1).val (by have := (j 1).isLt; simp at this ⊢; omega) := by
  have h : k0_pay2 (k0_pay4 v) j = rbyte (k0_pay4 v j) := by
    exact pay2_apply _ j
  rw [h, pay4_apply]
  exact (agree_block _ (blk_fin v hv _ _ _ _)).2.2.1

/-- The product. -/
theorem y_apply (w : Vec Ideal S2880x4096 .bf16) (j : S6x1536x4096.Idx) :
    k0_pay6 v w j = ∑ n : Fin 2880, rowWide (by norm_num) (row v (j 0) (j 1)) n * w (ix2 n (j 2)) := by
  rw [pay6_eq, dotV_apply]
  refine Finset.sum_congr rfl fun n _ => ?_
  rw [stackV_apply]
  refine congrArg (· * w (ix2 n (j 2))) ?_
  have hq := codes_apply v hv (ix3 (j 0) n (j 1))
  rw [show k0_pay1 (k0_pay5 v) (ix3 (j 0) n (j 1)) = k0_pay5 v (ix4 (j 0) ⟨n.val / 32, by omega⟩ ⟨n.val % 32, by omega⟩ (j 1)) from
    unblock (k0_pay5 v) _] at hq
  unfold rowWide
  refine (wideV_apply _ _ (j 0) (j 1) n).trans ?_
  rw [pay4_apply]
  refine congrArg₂ (· * ·) hq ?_
  exact (agree_block _ (blk_fin v hv (j 0) (j 1) (n.val / 32) (by omega))).2.1

end

/-- What the finiteness of the inputs says. -/
theorem finite_le [Cert.Pre_finite_x.Facts] (v : FVec Ideal S6x1536x2880 .bf16) (w : FVec Ideal S2880x4096 .bf16)
    (h : Cert.Pre_finite_x.fn (F := Ideal) v w = fun _ => 1#1) (j : S6x1536x2880.Idx) : max (v j) (-(v j)) ≤ Ideal.ofBits .bf16 32639#16 := by
  have h' := Host.reduce_andi_eq_one _ _ _ _ ix0 (congrFun h ix0) j (funext fun a => a.elim0)
  have h2 : BitVec.ofBool (decide (max (v j) (-(v j)) ≤ Ideal.ofBits .bf16 32639#16)) = 1#1 := h'
  by_contra hc
  rw [decide_eq_false hc] at h2
  exact absurd h2 (by decide)

end Cert.YReferenceIdeal.Y

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.RefValue
public import proofs.«01_k».proof.Proof.DxValue
public import proofs.«01_k».proof.Proof.DxRef
public import proofs.«01_k».proof.Proof.YKernelFrame
public import proofs.«01_k».proof.Proof.Gen.YKernelIdeal.Frame
public import proofs.«01_k».proof.Proof.YRefValue
public import proofs.«01_k».proof.Proof.YValue
public import proofs.«01_k».proof.Proof.YRef
public import proofs.«01_k».proof.Proof.Gen.YKernel.Skeleton
public import proofs.«01_k».proof.Proof.Gen.YKernelIdeal.Skeleton
public import Idealize.ShloMosaic.Adequacy
public import Idealize.ShloMosaic.Init

@[expose] public section

noncomputable section

namespace Cert.Proof

open Idealize.ShloMosaic Idealize.SL.Sem Cert.Kernel

/-- What the precondition on dy says. -/
instance finiteFacts : Cert.Pre_finite.Facts where
  bcast_S_S6x1536x4096 := by decide
  reducesTo_S6x1536x4096_S_d0_1_2 := by decide
  h_S_ := by decide

/-- What the precondition on x says. -/
instance finiteFactsX : Cert.Pre_finite_x.Facts where
  bcast_S_S6x1536x2880 := by decide
  reducesTo_S6x1536x2880_S_d0_1_2 := by decide
  h_S_ := by decide

/-! ## The input gradient -/

/-- On finite inputs the kernel's product is the reference's. -/
theorem product_eq (v : Vec Ideal Cert.KernelIdeal.S6x1536x4096 .bf16) (w : Vec Ideal Cert.KernelIdeal.S2880x4096 .bf16)
    (h : Cert.Pre_finite.fn (F := Ideal) v w = fun _ => 1#1) : Cert.ReferenceIdeal.Results.G2 (F := Ideal) v w = Cert.KernelIdeal.Dx.G2 v w :=
  funext fun j => Cert.ReferenceIdeal.Dx.dx_apply v (Cert.ReferenceIdeal.Dx.finite_le v w h) w j

/-- Likewise the codes. -/
theorem codes_eq (v : Vec Ideal Cert.KernelIdeal.S6x1536x4096 .bf16) (w : Vec Ideal Cert.KernelIdeal.S2880x4096 .bf16)
    (h : Cert.Pre_finite.fn (F := Ideal) v w = fun _ => 1#1) : Cert.ReferenceIdeal.Results.G3 (F := Ideal) v w = Cert.KernelIdeal.Dx.G3 v :=
  funext fun j => Cert.ReferenceIdeal.Dx.codes_apply v (Cert.ReferenceIdeal.Dx.finite_le v w h) j

/-- Likewise the stored exponents. -/
theorem exponents_eq (v : Vec Ideal Cert.KernelIdeal.S6x1536x4096 .bf16) (w : Vec Ideal Cert.KernelIdeal.S2880x4096 .bf16)
    (h : Cert.Pre_finite.fn (F := Ideal) v w = fun _ => 1#1) : Cert.ReferenceIdeal.Results.G4 (F := Ideal) v w = Cert.KernelIdeal.Dx.G4 v := by
  funext j
  refine (Cert.ReferenceIdeal.Dx.bytes_apply v (Cert.ReferenceIdeal.Dx.finite_le v w h) j).trans ?_
  exact (Cert.Quant.agree_block _ (Cert.ReferenceIdeal.Dx.blk_fin v (Cert.ReferenceIdeal.Dx.finite_le v w h) _ _ _ _)).2.2.2.symm

/-- The input-gradient kernel and its reference return the same three arrays. -/
theorem algebraic : Cert.algebraic_KernelIdeal_ReferenceIdeal_pre_finite := by
  intro m g m' g' hp ha
  refine ⟨fun c => Cert.KernelIdeal.Dx.G2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Dx.G3 (m ((c.tc : Thread Cert.KernelIdeal.nD Cert.KernelIdeal.τ).loc Cert.KernelIdeal.main_arg0)),
    fun c => Cert.KernelIdeal.Dx.G4 (m ((c.tc : Thread Cert.KernelIdeal.nD Cert.KernelIdeal.τ).loc Cert.KernelIdeal.main_arg0)),
    Cert.KernelIdeal.Dx.run m g, ?_⟩
  refine (θ_run Cert.ReferenceIdeal.defs _ _).mono (fun r h c => ?_) (Cert.ReferenceIdeal.Results.run (F := Ideal) m' g')
  obtain ⟨h2, h3, h4, k0, k1⟩ := h c
  rw [(ha c).1, (ha c).2] at h2 h3 h4
  exact ⟨h2.trans (product_eq _ _ (hp c)), h3.trans (codes_eq _ _ (hp c)), h4.trans (exponents_eq _ _ (hp c)), k0, k1⟩

/-! ## The forward product -/

/-- Finite entries stay finite in x turned. -/
theorem turned_le (v : Vec Ideal Cert.YKernelIdeal.S6x1536x2880 .bf16) (w : Vec Ideal Cert.YKernelIdeal.S2880x4096 .bf16)
    (h : Cert.Pre_finite_x.fn (F := Ideal) v w = fun _ => 1#1) (j : Cert.YKernelIdeal.S6x2880x1536.Idx) :
    max (Cert.YKernelIdeal.Y.turn v j) (-(Cert.YKernelIdeal.Y.turn v j)) ≤ Ideal.ofBits .bf16 32639#16 :=
  Cert.YReferenceIdeal.Y.finite_le v w h _

/-- On finite inputs the kernel's product is the reference's. -/
theorem product_eq_Y (v : Vec Ideal Cert.YKernelIdeal.S6x1536x2880 .bf16) (w : Vec Ideal Cert.YKernelIdeal.S2880x4096 .bf16)
    (h : Cert.Pre_finite_x.fn (F := Ideal) v w = fun _ => 1#1) :
    Cert.YReferenceIdeal.Results.G2 (F := Ideal) (Cert.YReferenceIdeal.Results.turn v) w = Cert.YKernelIdeal.Y.G2 (Cert.YKernelIdeal.Y.turn v) w :=
  funext fun j => Cert.YReferenceIdeal.Y.y_apply (Cert.YKernelIdeal.Y.turn v) (turned_le v w h) w j

/-- Likewise the codes. -/
theorem codes_eq_Y (v : Vec Ideal Cert.YKernelIdeal.S6x1536x2880 .bf16) (w : Vec Ideal Cert.YKernelIdeal.S2880x4096 .bf16)
    (h : Cert.Pre_finite_x.fn (F := Ideal) v w = fun _ => 1#1) :
    Cert.YReferenceIdeal.Results.G3 (F := Ideal) (Cert.YReferenceIdeal.Results.turn v) w = Cert.YKernelIdeal.Y.G3 (Cert.YKernelIdeal.Y.turn v) :=
  funext fun j => Cert.YReferenceIdeal.Y.codes_apply (Cert.YKernelIdeal.Y.turn v) (turned_le v w h) j

/-- Likewise the stored exponents. -/
theorem exponents_eq_Y (v : Vec Ideal Cert.YKernelIdeal.S6x1536x2880 .bf16) (w : Vec Ideal Cert.YKernelIdeal.S2880x4096 .bf16)
    (h : Cert.Pre_finite_x.fn (F := Ideal) v w = fun _ => 1#1) :
    Cert.YReferenceIdeal.Results.G4 (F := Ideal) (Cert.YReferenceIdeal.Results.turn v) w = Cert.YKernelIdeal.Y.G4 (Cert.YKernelIdeal.Y.turn v) :=
  funext fun j => Cert.YReferenceIdeal.Y.bytes_apply (Cert.YKernelIdeal.Y.turn v) (turned_le v w h) j

/-- The forward kernel and its reference return the same three arrays. -/
theorem algebraic_Y : Cert.algebraic_YKernelIdeal_YReferenceIdeal_pre_finite_x := by
  intro m g m' g' hp ha
  refine ⟨fun c => Cert.YKernelIdeal.Y.G2 (Cert.YKernelIdeal.Y.turn (m ((c.tc : Thread Cert.YKernelIdeal.nD Cert.YKernelIdeal.τ).loc Cert.YKernelIdeal.main_arg0))) (m ((c.tc : Thread Cert.YKernelIdeal.nD Cert.YKernelIdeal.τ).loc Cert.YKernelIdeal.main_arg1)),
    fun c => Cert.YKernelIdeal.Y.G3 (Cert.YKernelIdeal.Y.turn (m ((c.tc : Thread Cert.YKernelIdeal.nD Cert.YKernelIdeal.τ).loc Cert.YKernelIdeal.main_arg0))),
    fun c => Cert.YKernelIdeal.Y.G4 (Cert.YKernelIdeal.Y.turn (m ((c.tc : Thread Cert.YKernelIdeal.nD Cert.YKernelIdeal.τ).loc Cert.YKernelIdeal.main_arg0))),
    Cert.YKernelIdeal.Y.run m g, ?_⟩
  refine (θ_run Cert.YReferenceIdeal.defs _ _).mono (fun r h c => ?_) (Cert.YReferenceIdeal.Results.run (F := Ideal) m' g')
  obtain ⟨h2, h3, h4, k0, k1⟩ := h c
  rw [(ha c).1, (ha c).2] at h2 h3 h4
  exact ⟨h2.trans (product_eq_Y _ _ (hp c)), h3.trans (codes_eq_Y _ _ (hp c)), h4.trans (exponents_eq_Y _ _ (hp c)), k0, k1⟩

/-- All the claims. -/
theorem claim : Cert.Claim :=
  ⟨Cert.Kernel.Gen.facts, Cert.KernelIdeal.Gen.facts, Cert.ReferenceIdeal.Gen.facts, Cert.YKernel.Gen.facts, Cert.YKernelIdeal.Gen.facts,
    Cert.YReferenceIdeal.Gen.facts, finiteFacts, finiteFactsX,
    fun m ρ _ => Cert.Kernel.Gen.frame m ρ,
    fun m ρ _ => Cert.KernelIdeal.Dx.frame m ρ,
    fun m ρ _ => Cert.KernelIdeal.Dx.frame m ρ,
    fun m ρ _ => Cert.ReferenceIdeal.Gen.frame m ρ,
    fun m ρ _ => Cert.ReferenceIdeal.Gen.frame m ρ,
    fun m ρ _ => Cert.YKernel.Gen.frame m ρ,
    fun m ρ _ => Cert.YKernelIdeal.Y.frame m ρ,
    fun m ρ _ => Cert.YKernelIdeal.Y.frame m ρ,
    fun m ρ _ => Cert.YReferenceIdeal.Gen.frame m ρ,
    fun m ρ _ => Cert.YReferenceIdeal.Gen.frame m ρ,
    trivial,
    algebraic,
    trivial,
    algebraic_Y⟩

end Cert.Proof

end
